-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S512x1024 Cert.KernelIdeal.S256x1024
  ∧ IdealRules.bf16_pack.Statement Cert.KernelIdeal.S256x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_3)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_3) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_v125) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S2048x14336 : Shape := ⟨2, ![2048, 14336]⟩
abbrev S64x14336 : Shape := ⟨2, ![64, 14336]⟩
abbrev S4096x16 : Shape := ⟨2, ![4096, 16]⟩
abbrev S16x14336 : Shape := ⟨2, ![16, 14336]⟩
abbrev S8x2048x14336 : Shape := ⟨3, ![8, 2048, 14336]⟩
abbrev S16384x4096 : Shape := ⟨2, ![16384, 4096]⟩
abbrev S16384x14336 : Shape := ⟨2, ![16384, 14336]⟩
abbrev S4096x14336 : Shape := ⟨2, ![4096, 14336]⟩
abbrev S256x1024 : Shape := ⟨2, ![256, 1024]⟩
abbrev S8x1024 : Shape := ⟨2, ![8, 1024]⟩
abbrev S512x1024 : Shape := ⟨2, ![512, 1024]⟩
abbrev S8x1x1024 : Shape := ⟨3, ![8, 1, 1024]⟩
abbrev S8x32x1024 : Shape := ⟨3, ![8, 32, 1024]⟩
abbrev S16384x16 : Shape := ⟨2, ![16384, 16]⟩
abbrev S1024x4096 : Shape := ⟨2, ![1024, 4096]⟩
abbrev S1024x16 : Shape := ⟨2, ![1024, 16]⟩
abbrev S16x4096 : Shape := ⟨2, ![16, 4096]⟩
abbrev S512x512 : Shape := ⟨2, ![512, 512]⟩
abbrev S4096x512 : Shape := ⟨2, ![4096, 512]⟩
abbrev S16x512 : Shape := ⟨2, ![16, 512]⟩
abbrev S512x16 : Shape := ⟨2, ![512, 16]⟩
abbrev S512x4096 : Shape := ⟨2, ![512, 4096]⟩
abbrev S8x2048x16 : Shape := ⟨3, ![8, 2048, 16]⟩

abbrev nBuf : Space → Nat
  | .hbm => 18
  | .vmem => 30
  | .smem => 0
  | _ => 0

abbrev bufTy : (tb : Table) → Fin (tcTables nBuf tb) → BufTy
  | .hbm, ⟨0, _⟩ => ⟨S8x2048x4096, .bf16⟩
  | .hbm, ⟨1, _⟩ => ⟨S2048x14336, .i8⟩
  | .hbm, ⟨2, _⟩ => ⟨S64x14336, .f32⟩
  | .hbm, ⟨3, _⟩ => ⟨S4096x16, .bf16⟩
  | .hbm, ⟨4, _⟩ => ⟨S16x14336, .bf16⟩
  | .hbm, ⟨5, _⟩ => ⟨S8x2048x14336, .bf16⟩
  | .hbm, ⟨6, _⟩ => ⟨S16384x4096, .bf16⟩
  | .hbm, ⟨7, _⟩ => ⟨S16384x14336, .bf16⟩
  | .hbm, ⟨8, _⟩ => ⟨S4096x14336, .bf16⟩
  | .hbm, ⟨9, _⟩ => ⟨S16384x16, .bf16⟩
  | .hbm, ⟨10, _⟩ => ⟨S16384x4096, .bf16⟩
  | .hbm, ⟨11, _⟩ => ⟨S16384x16, .bf16⟩
  | .hbm, ⟨12, _⟩ => ⟨S16x4096, .f32⟩
  | .hbm, ⟨13, _⟩ => ⟨S16x14336, .f32⟩
  | .hbm, ⟨14, _⟩ => ⟨S8x2048x4096, .bf16⟩
  | .hbm, ⟨15, _⟩ => ⟨S4096x16, .f32⟩
  | .hbm, ⟨16, _⟩ => ⟨S8x2048x16, .bf16⟩
  | .hbm, ⟨17, _⟩ => ⟨S8x2048x16, .bf16⟩
  | .local _ .vmem, ⟨0, _⟩ => ⟨S256x1024, .i8⟩
  | .local _ .vmem, ⟨1, _⟩ => ⟨S256x1024, .i8⟩
  | .local _ .vmem, ⟨2, _⟩ => ⟨S8x1024, .f32⟩
  | .local _ .vmem, ⟨3, _⟩ => ⟨S8x1024, .f32⟩
  | .local _ .vmem, ⟨4, _⟩ => ⟨S512x1024, .bf16⟩
  | .local _ .vmem, ⟨5, _⟩ => ⟨S512x1024, .bf16⟩
  | .local _ .vmem, ⟨6, _⟩ => ⟨S1024x4096, .bf16⟩
  | .local _ .vmem, ⟨7, _⟩ => ⟨S1024x4096, .bf16⟩
  | .local _ .vmem, ⟨8, _⟩ => ⟨S4096x16, .bf16⟩
  | .local _ .vmem, ⟨9, _⟩ => ⟨S1024x16, .bf16⟩
  | .local _ .vmem, ⟨10, _⟩ => ⟨S1024x16, .bf16⟩
  | .local _ .vmem, ⟨11, _⟩ => ⟨S512x512, .bf16⟩
  | .local _ .vmem, ⟨12, _⟩ => ⟨S512x512, .bf16⟩
  | .local _ .vmem, ⟨13, _⟩ => ⟨S4096x512, .bf16⟩
  | .local _ .vmem, ⟨14, _⟩ => ⟨S4096x512, .bf16⟩
  | .local _ .vmem, ⟨15, _⟩ => ⟨S16x512, .bf16⟩
  | .local _ .vmem, ⟨16, _⟩ => ⟨S16x512, .bf16⟩
  | .local _ .vmem, ⟨17, _⟩ => ⟨S512x16, .bf16⟩
  | .local _ .vmem, ⟨18, _⟩ => ⟨S512x16, .bf16⟩
  | .local _ .vmem, ⟨19, _⟩ => ⟨S512x4096, .bf16⟩
  | .local _ .vmem, ⟨20, _⟩ => ⟨S512x4096, .bf16⟩
  | .local _ .vmem, ⟨21, _⟩ => ⟨S4096x16, .bf16⟩
  | .local _ .vmem, ⟨22, _⟩ => ⟨S512x4096, .bf16⟩
  | .local _ .vmem, ⟨23, _⟩ => ⟨S512x4096, .bf16⟩
  | .local _ .vmem, ⟨24, _⟩ => ⟨S512x16, .bf16⟩
  | .local _ .vmem, ⟨25, _⟩ => ⟨S512x16, .bf16⟩
  | .local _ .vmem, ⟨26, _⟩ => ⟨S16x4096, .f32⟩
  | .local _ .vmem, ⟨27, _⟩ => ⟨S16x14336, .f32⟩
  | .local _ .vmem, ⟨28, _⟩ => ⟨S512x4096, .f32⟩
  | .local _ .vmem, ⟨29, _⟩ => ⟨S512x16, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg9_0 : Ref sig .tc := ⟨.vmem, 27, rfl⟩
abbrev cc2_scratch0 : Ref sig .tc := ⟨.vmem, 28, rfl⟩
abbrev cc2_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25
abbrev cc2_sem8_0 : DmaSem sig := 26
abbrev cc2_sem9_0 : DmaSem sig := 27

abbrev nD : Nat := 1
abbrev τ : Topo := Topo.v7x

variable {F : FTy → Type} [BitOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x16 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![32, 28], ![false, false]⟩

def k2_mult1 (i : grid2.Coords) : BitVec 32 :=
  let arg1 : BitVec 32 := BitVec.ofNat 32 (i 1).val
  let c512_i32 : BitVec 32 := 512#32
  let v25 : BitVec 32 := Scalar.muli arg1 c512_i32
  v25
def k2_off1 (i : grid2.Coords) : Fin 2 → Nat :=
  let c0_18 : Index := 0#32
  let arg1 : BitVec 32 := BitVec.ofNat 32 (i 1).val
  let c512_i32 : BitVec 32 := 512#32
  let v25 : BitVec 32 := Scalar.muli arg1 c512_i32
  let v26 : BitVec 32 := v25
  let v27 : Index := Scalar.indexCast v26
  ![0, v27.toNat]
def k2_cond3 (i : grid2.Coords) : BitVec 1 :=
  let arg1 : BitVec 32 := BitVec.ofNat 32 (i 1).val
  let c27_i32 : BitVec 32 := 27#32
  let v38 : BitVec 1 := Scalar.cmpi .eq arg1 c27_i32
  let v39 : BitVec 32 := Scalar.extui v38
  let c0_i32_24 : BitVec 32 := 0#32
  let v40 : BitVec 1 := Scalar.cmpi .ne v39 c0_i32_24
  v40

def k2_cond2 (i : grid2.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S16x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x16 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S4096x16 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x4096 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S512x16 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 1 → Memref sig .tc .vmem S16x4096 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S16x14336 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]
-- ==== KernelIdeal.lean ====
variable {F : FTy → Type} [FloatOps F]
-- ==== ReferenceIdeal.lean ====
abbrev S8x2048x4096 : Shape := ⟨3, ![8, 2048, 4096]⟩
abbrev S2048x14336 : Shape := ⟨2, ![2048, 14336]⟩
abbrev S64x14336 : Shape := ⟨2, ![64, 14336]⟩
abbrev S4096x16 : Shape := ⟨2, ![4096, 16]⟩
abbrev S16x14336 : Shape := ⟨2, ![16, 14336]⟩
abbrev S8x2048x14336 : Shape := ⟨3, ![8, 2048, 14336]⟩
abbrev S_ : Shape := ⟨0, ![]⟩
abbrev S64x32x14336 : Shape := ⟨3, ![64, 32, 14336]⟩
abbrev S64x1x14336 : Shape := ⟨3, ![64, 1, 14336]⟩
abbrev S8x2048x2048 : Shape := ⟨3, ![8, 2048, 2048]⟩
abbrev S8x2048x2048x1 : Shape := ⟨4, ![8, 2048, 2048, 1]⟩
abbrev S8x2048x2048x2 : Shape := ⟨4, ![8, 2048, 2048, 2]⟩
abbrev S8x2048x16 : Shape := ⟨3, ![8, 2048, 16]⟩

abbrev nBuf : Space → Nat
  | .hbm => 235
  | .vmem => 0
  | .smem => 0
  | _ => 0

abbrev hbmTy0_0 (i : Nat) : BufTy := match i % 128 with
  | 0 => ⟨S8x2048x4096, .bf16⟩
  | 1 => ⟨S2048x14336, .i8⟩
  | 2 => ⟨S64x14336, .f32⟩
  | 3 => ⟨S4096x16, .bf16⟩
  | 4 => ⟨S16x14336, .bf16⟩
  | 5 => ⟨S8x2048x14336, .bf16⟩
  | 6 => ⟨S2048x14336, .i32⟩
  | 7 => ⟨S_, .i32⟩
  | 8 => ⟨S2048x14336, .i32⟩
  | 9 => ⟨S2048x14336, .i32⟩
  | 10 => ⟨S_, .f32⟩
  | 11 => ⟨S2048x14336, .f32⟩
  | 12 => ⟨S_, .i32⟩
  | 13 => ⟨S2048x14336, .i32⟩
  | 14 => ⟨S2048x14336, .i1⟩
  | 15 => ⟨S_, .f32⟩
  | 16 => ⟨S2048x14336, .f32⟩
  | 17 => ⟨S2048x14336, .f32⟩
  | 18 => ⟨S_, .i32⟩
  | 19 => ⟨S2048x14336, .i32⟩
  | 20 => ⟨S2048x14336, .i1⟩
  | 21 => ⟨S_, .f32⟩
  | 22 => ⟨S2048x14336, .f32⟩
  | 23 => ⟨S2048x14336, .f32⟩
  | 24 => ⟨S_, .i32⟩
  | 25 => ⟨S2048x14336, .i32⟩
  | 26 => ⟨S2048x14336, .i1⟩
  | 27 => ⟨S_, .f32⟩
  | 28 => ⟨S2048x14336, .f32⟩
  | 29 => ⟨S2048x14336, .f32⟩
  | 30 => ⟨S_, .i32⟩
  | 31 => ⟨S2048x14336, .i32⟩
  | 32 => ⟨S2048x14336, .i1⟩
  | 33 => ⟨S_, .f32⟩
  | 34 => ⟨S2048x14336, .f32⟩
  | 35 => ⟨S2048x14336, .f32⟩
  | 36 => ⟨S_, .i32⟩
  | 37 => ⟨S2048x14336, .i32⟩
  | 38 => ⟨S2048x14336, .i1⟩
  | 39 => ⟨S_, .f32⟩
  | 40 => ⟨S2048x14336, .f32⟩
  | 41 => ⟨S2048x14336, .f32⟩
  | 42 => ⟨S_, .i32⟩
  | 43 => ⟨S2048x14336, .i32⟩
  | 44 => ⟨S2048x14336, .i1⟩
  | 45 => ⟨S_, .f32⟩
  | 46 => ⟨S2048x14336, .f32⟩
  | 47 => ⟨S2048x14336, .f32⟩
  | 48 => ⟨S_, .i32⟩
  | 49 => ⟨S2048x14336, .i32⟩
  | 50 => ⟨S2048x14336, .i1⟩
  | 51 => ⟨S_, .f32⟩
  | 52 => ⟨S2048x14336, .f32⟩
  | 53 => ⟨S2048x14336, .f32⟩
  | 54 => ⟨S_, .i32⟩
  | 55 => ⟨S2048x14336, .i32⟩
  | 56 => ⟨S2048x14336, .i1⟩
  | 57 => ⟨S_, .f32⟩
  | 58 => ⟨S2048x14336, .f32⟩
  | 59 => ⟨S2048x14336, .f32⟩
  | 60 => ⟨S_, .i32⟩
  | 61 => ⟨S2048x14336, .i32⟩
  | 62 => ⟨S2048x14336, .i1⟩
  | 63 => ⟨S_, .f32⟩
  | 64 => ⟨S2048x14336, .f32⟩
  | 65 => ⟨S2048x14336, .f32⟩
  | 66 => ⟨S_, .i32⟩
  | 67 => ⟨S2048x14336, .i32⟩
  | 68 => ⟨S2048x14336, .i1⟩
  | 69 => ⟨S_, .f32⟩
  | 70 => ⟨S2048x14336, .f32⟩
  | 71 => ⟨S2048x14336, .f32⟩
  | 72 => ⟨S_, .i32⟩
  | 73 => ⟨S2048x14336, .i32⟩
  | 74 => ⟨S2048x14336, .i1⟩
  | 75 => ⟨S_, .f32⟩
  | 76 => ⟨S2048x14336, .f32⟩
  | 77 => ⟨S2048x14336, .f32⟩
  | 78 => ⟨S_, .i32⟩
  | 79 => ⟨S2048x14336, .i32⟩
  | 80 => ⟨S2048x14336, .i1⟩
  | 81 => ⟨S_, .f32⟩
  | 82 => ⟨S2048x14336, .f32⟩
  | 83 => ⟨S2048x14336, .f32⟩
  | 84 => ⟨S_, .i32⟩
  | 85 => ⟨S2048x14336, .i32⟩
  | 86 => ⟨S2048x14336, .i1⟩
  | 87 => ⟨S_, .f32⟩
  | 88 => ⟨S2048x14336, .f32⟩
  | 89 => ⟨S2048x14336, .f32⟩
  | 90 => ⟨S_, .i32⟩
  | 91 => ⟨S2048x14336, .i32⟩
  | 92 => ⟨S2048x14336, .i1⟩
  | 93 => ⟨S_, .f32⟩
  | 94 => ⟨S2048x14336, .f32⟩
  | 95 => ⟨S2048x14336, .f32⟩
  | 96 => ⟨S_, .i32⟩
  | 97 => ⟨S2048x14336, .i32⟩
  | 98 => ⟨S2048x14336, .i1⟩
  | 99 => ⟨S_, .f32⟩
  | 100 => ⟨S2048x14336, .f32⟩
  | 101 => ⟨S2048x14336, .f32⟩
  | 102 => ⟨S2048x14336, .bf16⟩
  | 103 => ⟨S64x32x14336, .bf16⟩
  | 104 => ⟨S64x14336, .bf16⟩
  | 105 => ⟨S64x1x14336, .bf16⟩
  | 106 => ⟨S64x32x14336, .bf16⟩
  | 107 => ⟨S64x32x14336, .bf16⟩
  | 108 => ⟨S2048x14336, .bf16⟩
  | 109 => ⟨S_, .i32⟩
  | 110 => ⟨S2048x14336, .i32⟩
  | 111 => ⟨S2048x14336, .i32⟩
  | 112 => ⟨S_, .f32⟩
  | 113 => ⟨S2048x14336, .f32⟩
  | 114 => ⟨S_, .i32⟩
  | 115 => ⟨S2048x14336, .i32⟩
  | 116 => ⟨S2048x14336, .i1⟩
  | 117 => ⟨S_, .f32⟩
  | 118 => ⟨S2048x14336, .f32⟩
  | 119 => ⟨S2048x14336, .f32⟩
  | 120 => ⟨S_, .i32⟩
  | 121 => ⟨S2048x14336, .i32⟩
  | 122 => ⟨S2048x14336, .i1⟩
  | 123 => ⟨S_, .f32⟩
  | 124 => ⟨S2048x14336, .f32⟩
  | 125 => ⟨S2048x14336, .f32⟩
  | 126 => ⟨S_, .i32⟩
  | 127 => ⟨S2048x14336, .i32⟩
  | _ => ⟨S8x2048x4096, .bf16⟩

abbrev hbmTy0_1 (i : Nat) : BufTy := match i % 128 with
  | 0 => ⟨S2048x14336, .i1⟩
  | 1 => ⟨S_, .f32⟩
  | 2 => ⟨S2048x14336, .f32⟩
  | 3 => ⟨S2048x14336, .f32⟩
  | 4 => ⟨S_, .i32⟩
  | 5 => ⟨S2048x14336, .i32⟩
  | 6 => ⟨S2048x14336, .i1⟩
  | 7 => ⟨S_, .f32⟩
  | 8 => ⟨S2048x14336, .f32⟩
  | 9 => ⟨S2048x14336, .f32⟩
  | 10 => ⟨S_, .i32⟩
  | 11 => ⟨S2048x14336, .i32⟩
  | 12 => ⟨S2048x14336, .i1⟩
  | 13 => ⟨S_, .f32⟩
  | 14 => ⟨S2048x14336, .f32⟩
  | 15 => ⟨S2048x14336, .f32⟩
  | 16 => ⟨S_, .i32⟩
  | 17 => ⟨S2048x14336, .i32⟩
  | 18 => ⟨S2048x14336, .i1⟩
  | 19 => ⟨S_, .f32⟩
  | 20 => ⟨S2048x14336, .f32⟩
  | 21 => ⟨S2048x14336, .f32⟩
  | 22 => ⟨S_, .i32⟩
  | 23 => ⟨S2048x14336, .i32⟩
  | 24 => ⟨S2048x14336, .i1⟩
  | 25 => ⟨S_, .f32⟩
  | 26 => ⟨S2048x14336, .f32⟩
  | 27 => ⟨S2048x14336, .f32⟩
  | 28 => ⟨S_, .i32⟩
  | 29 => ⟨S2048x14336, .i32⟩
  | 30 => ⟨S2048x14336, .i1⟩
  | 31 => ⟨S_, .f32⟩
  | 32 => ⟨S2048x14336, .f32⟩
  | 33 => ⟨S2048x14336, .f32⟩
  | 34 => ⟨S_, .i32⟩
  | 35 => ⟨S2048x14336, .i32⟩
  | 36 => ⟨S2048x14336, .i1⟩
  | 37 => ⟨S_, .f32⟩
  | 38 => ⟨S2048x14336, .f32⟩
  | 39 => ⟨S2048x14336, .f32⟩
  | 40 => ⟨S_, .i32⟩
  | 41 => ⟨S2048x14336, .i32⟩
  | 42 => ⟨S2048x14336, .i1⟩
  | 43 => ⟨S_, .f32⟩
  | 44 => ⟨S2048x14336, .f32⟩
  | 45 => ⟨S2048x14336, .f32⟩
  | 46 => ⟨S_, .i32⟩
  | 47 => ⟨S2048x14336, .i32⟩
  | 48 => ⟨S2048x14336, .i1⟩
  | 49 => ⟨S_, .f32⟩
  | 50 => ⟨S2048x14336, .f32⟩
  | 51 => ⟨S2048x14336, .f32⟩
  | 52 => ⟨S_, .i32⟩
  | 53 => ⟨S2048x14336, .i32⟩
  | 54 => ⟨S2048x14336, .i1⟩
  | 55 => ⟨S_, .f32⟩
  | 56 => ⟨S2048x14336, .f32⟩
  | 57 => ⟨S2048x14336, .f32⟩
  | 58 => ⟨S_, .i32⟩
  | 59 => ⟨S2048x14336, .i32⟩
  | 60 => ⟨S2048x14336, .i1⟩
  | 61 => ⟨S_, .f32⟩
  | 62 => ⟨S2048x14336, .f32⟩
  | 63 => ⟨S2048x14336, .f32⟩
  | 64 => ⟨S_, .i32⟩
  | 65 => ⟨S2048x14336, .i32⟩
  | 66 => ⟨S2048x14336, .i1⟩
  | 67 => ⟨S_, .f32⟩
  | 68 => ⟨S2048x14336, .f32⟩
  | 69 => ⟨S2048x14336, .f32⟩
  | 70 => ⟨S_, .i32⟩
  | 71 => ⟨S2048x14336, .i32⟩
  | 72 => ⟨S2048x14336, .i1⟩
  | 73 => ⟨S_, .f32⟩
  | 74 => ⟨S2048x14336, .f32⟩
  | 75 => ⟨S2048x14336, .f32⟩
  | 76 => ⟨S2048x14336, .bf16⟩
  | 77 => ⟨S64x32x14336, .bf16⟩
  | 78 => ⟨S64x14336, .bf16⟩
  | 79 => ⟨S64x1x14336, .bf16⟩
  | 80 => ⟨S64x32x14336, .bf16⟩
  | 81 => ⟨S64x32x14336, .bf16⟩
  | 82 => ⟨S2048x14336, .bf16⟩
  | 83 => ⟨S8x2048x2048, .f32⟩
  | 84 => ⟨S8x2048x2048, .f32⟩
  | 85 => ⟨S8x2048x2048x1, .f32⟩
  | 86 => ⟨S8x2048x2048x1, .f32⟩
  | 87 => ⟨S8x2048x2048x2, .f32⟩
  | 88 => ⟨S8x2048x4096, .f32⟩
  | 89 => ⟨S8x2048x16, .f32⟩
  | 90 => ⟨S8x2048x16, .bf16⟩
  | 91 => ⟨S8x2048x4096, .f32⟩
  | 92 => ⟨S_, .f32⟩
  | 93 => ⟨S8x2048x4096, .f32⟩
  | 94 => ⟨S8x2048x4096, .f32⟩
  | 95 => ⟨S8x2048x4096, .f32⟩
  | 96 => ⟨S8x2048x4096, .bf16⟩
  | 97 => ⟨S8x2048x16, .f32⟩
  | 98 => ⟨S8x2048x16, .bf16⟩
  | 99 => ⟨S16x14336, .f32⟩
  | 100 => ⟨S_, .f32⟩
  | 101 => ⟨S16x14336, .f32⟩
  | 102 => ⟨S16x14336, .f32⟩
  | 103 => ⟨S4096x16, .f32⟩
  | 104 => ⟨S_, .f32⟩
  | 105 => ⟨S4096x16, .f32⟩
  | 106 => ⟨S4096x16, .f32⟩
  | _ => ⟨S8x2048x4096, .bf16⟩

abbrev hbmTy (i : Nat) : BufTy := match i / 128 with
  | 0 => hbmTy0_0 i
  | 1 => hbmTy0_1 i
  | _ => ⟨S8x2048x4096, .bf16⟩

abbrev bufTy : (tb : Table) → Fin (tcTables nBuf tb) → BufTy
  | .hbm, ⟨i, _⟩ => hbmTy i
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_call0_v0 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call1_v0 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_call2_v0 : Ref sig .tc := ⟨.hbm, 28, rfl⟩
abbrev main_v12 : Ref sig .tc := ⟨.hbm, 29, rfl⟩
abbrev main_c_6 : Ref sig .tc := ⟨.hbm, 30, rfl⟩
abbrev main_v13 : Ref sig .tc := ⟨.hbm, 31, rfl⟩
abbrev main_v14 : Ref sig .tc := ⟨.hbm, 32, rfl⟩
abbrev main_cst_7 : Ref sig .tc := ⟨.hbm, 33, rfl⟩
abbrev main_call3_v0 : Ref sig .tc := ⟨.hbm, 34, rfl⟩
abbrev main_v15 : Ref sig .tc := ⟨.hbm, 35, rfl⟩
abbrev main_c_8 : Ref sig .tc := ⟨.hbm, 36, rfl⟩
abbrev main_v16 : Ref sig .tc := ⟨.hbm, 37, rfl⟩
abbrev main_v17 : Ref sig .tc := ⟨.hbm, 38, rfl⟩
abbrev main_cst_9 : Ref sig .tc := ⟨.hbm, 39, rfl⟩
abbrev main_call4_v0 : Ref sig .tc := ⟨.hbm, 40, rfl⟩
abbrev main_v18 : Ref sig .tc := ⟨.hbm, 41, rfl⟩
abbrev main_c_10 : Ref sig .tc := ⟨.hbm, 42, rfl⟩
abbrev main_v19 : Ref sig .tc := ⟨.hbm, 43, rfl⟩
abbrev main_v20 : Ref sig .tc := ⟨.hbm, 44, rfl⟩
abbrev main_cst_11 : Ref sig .tc := ⟨.hbm, 45, rfl⟩
abbrev main_call5_v0 : Ref sig .tc := ⟨.hbm, 46, rfl⟩
abbrev main_v21 : Ref sig .tc := ⟨.hbm, 47, rfl⟩
abbrev main_c_12 : Ref sig .tc := ⟨.hbm, 48, rfl⟩
abbrev main_v22 : Ref sig .tc := ⟨.hbm, 49, rfl⟩
abbrev main_v23 : Ref sig .tc := ⟨.hbm, 50, rfl⟩
abbrev main_cst_13 : Ref sig .tc := ⟨.hbm, 51, rfl⟩
abbrev main_call6_v0 : Ref sig .tc := ⟨.hbm, 52, rfl⟩
abbrev main_v24 : Ref sig .tc := ⟨.hbm, 53, rfl⟩
abbrev main_c_14 : Ref sig .tc := ⟨.hbm, 54, rfl⟩
abbrev main_v25 : Ref sig .tc := ⟨.hbm, 55, rfl⟩
abbrev main_v26 : Ref sig .tc := ⟨.hbm, 56, rfl⟩
abbrev main_cst_15 : Ref sig .tc := ⟨.hbm, 57, rfl⟩
abbrev main_call7_v0 : Ref sig .tc := ⟨.hbm, 58, rfl⟩
abbrev main_v27 : Ref sig .tc := ⟨.hbm, 59, rfl⟩
abbrev main_c_16 : Ref sig .tc := ⟨.hbm, 60, rfl⟩
abbrev main_v28 : Ref sig .tc := ⟨.hbm, 61, rfl⟩
abbrev main_v29 : Ref sig .tc := ⟨.hbm, 62, rfl⟩
abbrev main_cst_17 : Ref sig .tc := ⟨.hbm, 63, rfl⟩
abbrev main_call8_v0 : Ref sig .tc := ⟨.hbm, 64, rfl⟩
abbrev main_v30 : Ref sig .tc := ⟨.hbm, 65, rfl⟩
abbrev main_c_18 : Ref sig .tc := ⟨.hbm, 66, rfl⟩
abbrev main_v31 : Ref sig .tc := ⟨.hbm, 67, rfl⟩
abbrev main_v32 : Ref sig .tc := ⟨.hbm, 68, rfl⟩
abbrev main_cst_19 : Ref sig .tc := ⟨.hbm, 69, rfl⟩
abbrev main_call9_v0 : Ref sig .tc := ⟨.hbm, 70, rfl⟩
abbrev main_v33 : Ref sig .tc := ⟨.hbm, 71, rfl⟩
abbrev main_c_20 : Ref sig .tc := ⟨.hbm, 72, rfl⟩
abbrev main_v34 : Ref sig .tc := ⟨.hbm, 73, rfl⟩
abbrev main_v35 : Ref sig .tc := ⟨.hbm, 74, rfl⟩
abbrev main_cst_21 : Ref sig .tc := ⟨.hbm, 75, rfl⟩
abbrev main_call10_v0 : Ref sig .tc := ⟨.hbm, 76, rfl⟩
abbrev main_v36 : Ref sig .tc := ⟨.hbm, 77, rfl⟩
abbrev main_c_22 : Ref sig .tc := ⟨.hbm, 78, rfl⟩
abbrev main_v37 : Ref sig .tc := ⟨.hbm, 79, rfl⟩
abbrev main_v38 : Ref sig .tc := ⟨.hbm, 80, rfl⟩
abbrev main_cst_23 : Ref sig .tc := ⟨.hbm, 81, rfl⟩
abbrev main_call11_v0 : Ref sig .tc := ⟨.hbm, 82, rfl⟩
abbrev main_v39 : Ref sig .tc := ⟨.hbm, 83, rfl⟩
abbrev main_c_24 : Ref sig .tc := ⟨.hbm, 84, rfl⟩
abbrev main_v40 : Ref sig .tc := ⟨.hbm, 85, rfl⟩
abbrev main_v41 : Ref sig .tc := ⟨.hbm, 86, rfl⟩
abbrev main_cst_25 : Ref sig .tc := ⟨.hbm, 87, rfl⟩
abbrev main_call12_v0 : Ref sig .tc := ⟨.hbm, 88, rfl⟩
abbrev main_v42 : Ref sig .tc := ⟨.hbm, 89, rfl⟩
abbrev main_c_26 : Ref sig .tc := ⟨.hbm, 90, rfl⟩
abbrev main_v43 : Ref sig .tc := ⟨.hbm, 91, rfl⟩
abbrev main_v44 : Ref sig .tc := ⟨.hbm, 92, rfl⟩
abbrev main_cst_27 : Ref sig .tc := ⟨.hbm, 93, rfl⟩
abbrev main_call13_v0 : Ref sig .tc := ⟨.hbm, 94, rfl⟩
abbrev main_v45 : Ref sig .tc := ⟨.hbm, 95, rfl⟩
abbrev main_c_28 : Ref sig .tc := ⟨.hbm, 96, rfl⟩
abbrev main_v46 : Ref sig .tc := ⟨.hbm, 97, rfl⟩
abbrev main_v47 : Ref sig .tc := ⟨.hbm, 98, rfl⟩
abbrev main_cst_29 : Ref sig .tc := ⟨.hbm, 99, rfl⟩
abbrev main_call14_v0 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_c_30 : Ref sig .tc := ⟨.hbm, 109, rfl⟩
abbrev main_v56 : Ref sig .tc := ⟨.hbm, 110, rfl⟩
abbrev main_v57 : Ref sig .tc := ⟨.hbm, 111, rfl⟩
abbrev main_cst_31 : Ref sig .tc := ⟨.hbm, 112, rfl⟩
abbrev main_v58 : Ref sig .tc := ⟨.hbm, 113, rfl⟩
abbrev main_c_32 : Ref sig .tc := ⟨.hbm, 114, rfl⟩
abbrev main_v59 : Ref sig .tc := ⟨.hbm, 115, rfl⟩
abbrev main_v60 : Ref sig .tc := ⟨.hbm, 116, rfl⟩
abbrev main_cst_33 : Ref sig .tc := ⟨.hbm, 117, rfl⟩
abbrev main_call15_v0 : Ref sig .tc := ⟨.hbm, 118, rfl⟩
abbrev main_v61 : Ref sig .tc := ⟨.hbm, 119, rfl⟩
abbrev main_c_34 : Ref sig .tc := ⟨.hbm, 120, rfl⟩
abbrev main_v62 : Ref sig .tc := ⟨.hbm, 121, rfl⟩
abbrev main_v63 : Ref sig .tc := ⟨.hbm, 122, rfl⟩
abbrev main_cst_35 : Ref sig .tc := ⟨.hbm, 123, rfl⟩
abbrev main_call16_v0 : Ref sig .tc := ⟨.hbm, 124, rfl⟩
abbrev main_v64 : Ref sig .tc := ⟨.hbm, 125, rfl⟩
abbrev main_c_36 : Ref sig .tc := ⟨.hbm, 126, rfl⟩
abbrev main_v65 : Ref sig .tc := ⟨.hbm, 127, rfl⟩
abbrev main_v66 : Ref sig .tc := ⟨.hbm, 128, rfl⟩
abbrev main_cst_37 : Ref sig .tc := ⟨.hbm, 129, rfl⟩
abbrev main_call17_v0 : Ref sig .tc := ⟨.hbm, 130, rfl⟩
abbrev main_v67 : Ref sig .tc := ⟨.hbm, 131, rfl⟩
abbrev main_c_38 : Ref sig .tc := ⟨.hbm, 132, rfl⟩
abbrev main_v68 : Ref sig .tc := ⟨.hbm, 133, rfl⟩
abbrev main_v69 : Ref sig .tc := ⟨.hbm, 134, rfl⟩
abbrev main_cst_39 : Ref sig .tc := ⟨.hbm, 135, rfl⟩
abbrev main_call18_v0 : Ref sig .tc := ⟨.hbm, 136, rfl⟩
abbrev main_v70 : Ref sig .tc := ⟨.hbm, 137, rfl⟩
abbrev main_c_40 : Ref sig .tc := ⟨.hbm, 138, rfl⟩
abbrev main_v71 : Ref sig .tc := ⟨.hbm, 139, rfl⟩
abbrev main_v72 : Ref sig .tc := ⟨.hbm, 140, rfl⟩
abbrev main_cst_41 : Ref sig .tc := ⟨.hbm, 141, rfl⟩
abbrev main_call19_v0 : Ref sig .tc := ⟨.hbm, 142, rfl⟩
abbrev main_v73 : Ref sig .tc := ⟨.hbm, 143, rfl⟩
abbrev main_c_42 : Ref sig .tc := ⟨.hbm, 144, rfl⟩
abbrev main_v74 : Ref sig .tc := ⟨.hbm, 145, rfl⟩
abbrev main_v75 : Ref sig .tc := ⟨.hbm, 146, rfl⟩
abbrev main_cst_43 : Ref sig .tc := ⟨.hbm, 147, rfl⟩
abbrev main_call20_v0 : Ref sig .tc := ⟨.hbm, 148, rfl⟩
abbrev main_v76 : Ref sig .tc := ⟨.hbm, 149, rfl⟩
abbrev main_c_44 : Ref sig .tc := ⟨.hbm, 150, rfl⟩
abbrev main_v77 : Ref sig .tc := ⟨.hbm, 151, rfl⟩
abbrev main_v78 : Ref sig .tc := ⟨.hbm, 152, rfl⟩
abbrev main_cst_45 : Ref sig .tc := ⟨.hbm, 153, rfl⟩
abbrev main_call21_v0 : Ref sig .tc := ⟨.hbm, 154, rfl⟩
abbrev main_v79 : Ref sig .tc := ⟨.hbm, 155, rfl⟩
abbrev main_c_46 : Ref sig .tc := ⟨.hbm, 156, rfl⟩
abbrev main_v80 : Ref sig .tc := ⟨.hbm, 157, rfl⟩
abbrev main_v81 : Ref sig .tc := ⟨.hbm, 158, rfl⟩
abbrev main_cst_47 : Ref sig .tc := ⟨.hbm, 159, rfl⟩
abbrev main_call22_v0 : Ref sig .tc := ⟨.hbm, 160, rfl⟩
abbrev main_v82 : Ref sig .tc := ⟨.hbm, 161, rfl⟩
abbrev main_c_48 : Ref sig .tc := ⟨.hbm, 162, rfl⟩
abbrev main_v83 : Ref sig .tc := ⟨.hbm, 163, rfl⟩
abbrev main_v84 : Ref sig .tc := ⟨.hbm, 164, rfl⟩
abbrev main_cst_49 : Ref sig .tc := ⟨.hbm, 165, rfl⟩
abbrev main_call23_v0 : Ref sig .tc := ⟨.hbm, 166, rfl⟩
abbrev main_v85 : Ref sig .tc := ⟨.hbm, 167, rfl⟩
abbrev main_c_50 : Ref sig .tc := ⟨.hbm, 168, rfl⟩
abbrev main_v86 : Ref sig .tc := ⟨.hbm, 169, rfl⟩
abbrev main_v87 : Ref sig .tc := ⟨.hbm, 170, rfl⟩
abbrev main_cst_51 : Ref sig .tc := ⟨.hbm, 171, rfl⟩
abbrev main_call24_v0 : Ref sig .tc := ⟨.hbm, 172, rfl⟩
abbrev main_v88 : Ref sig .tc := ⟨.hbm, 173, rfl⟩
abbrev main_c_52 : Ref sig .tc := ⟨.hbm, 174, rfl⟩
abbrev main_v89 : Ref sig .tc := ⟨.hbm, 175, rfl⟩
abbrev main_v90 : Ref sig .tc := ⟨.hbm, 176, rfl⟩
abbrev main_cst_53 : Ref sig .tc := ⟨.hbm, 177, rfl⟩
abbrev main_call25_v0 : Ref sig .tc := ⟨.hbm, 178, rfl⟩
abbrev main_v91 : Ref sig .tc := ⟨.hbm, 179, rfl⟩
abbrev main_c_54 : Ref sig .tc := ⟨.hbm, 180, rfl⟩
abbrev main_v92 : Ref sig .tc := ⟨.hbm, 181, rfl⟩
abbrev main_v93 : Ref sig .tc := ⟨.hbm, 182, rfl⟩
abbrev main_cst_55 : Ref sig .tc := ⟨.hbm, 183, rfl⟩
abbrev main_call26_v0 : Ref sig .tc := ⟨.hbm, 184, rfl⟩
abbrev main_v94 : Ref sig .tc := ⟨.hbm, 185, rfl⟩
abbrev main_c_56 : Ref sig .tc := ⟨.hbm, 186, rfl⟩
abbrev main_v95 : Ref sig .tc := ⟨.hbm, 187, rfl⟩
abbrev main_v96 : Ref sig .tc := ⟨.hbm, 188, rfl⟩
abbrev main_cst_57 : Ref sig .tc := ⟨.hbm, 189, rfl⟩
abbrev main_call27_v0 : Ref sig .tc := ⟨.hbm, 190, rfl⟩
abbrev main_v97 : Ref sig .tc := ⟨.hbm, 191, rfl⟩
abbrev main_c_58 : Ref sig .tc := ⟨.hbm, 192, rfl⟩
abbrev main_v98 : Ref sig .tc := ⟨.hbm, 193, rfl⟩
abbrev main_v99 : Ref sig .tc := ⟨.hbm, 194, rfl⟩
abbrev main_cst_59 : Ref sig .tc := ⟨.hbm, 195, rfl⟩
abbrev main_call28_v0 : Ref sig .tc := ⟨.hbm, 196, rfl⟩
abbrev main_v100 : Ref sig .tc := ⟨.hbm, 197, rfl⟩
abbrev main_c_60 : Ref sig .tc := ⟨.hbm, 198, rfl⟩
abbrev main_v101 : Ref sig .tc := ⟨.hbm, 199, rfl⟩
abbrev main_v102 : Ref sig .tc := ⟨.hbm, 200, rfl⟩
abbrev main_cst_61 : Ref sig .tc := ⟨.hbm, 201, rfl⟩
abbrev main_call29_v0 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_cst_62 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_cst_63 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_cst_64 : Ref sig .tc := ⟨.hbm, 232, rfl⟩
abbrev main_v130 : Ref sig .tc := ⟨.hbm, 233, rfl⟩
abbrev main_v131 : Ref sig .tc := ⟨.hbm, 234, rfl⟩

abbrev nD : Nat := 1
abbrev τ : Topo := Topo.v7x

variable {F : FTy → Type} [FloatOps F]
-- ==== Proof.Reference.Frame.lean ====
/-
  The reference's frame: its run (host operations only) leaves the arguments as they were, and it declares no semaphore.
-/
module

public import proofs.«01_k».proof.Proof.Gen.ReferenceIdeal.Run
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem

variable {F : FTy → Type} [FloatOps F]

/-- Every weakly fair execution of the reference terminates, with every argument array as it was and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2.2, sem_eq_zero_of_no_sems (by decide) r.2⟩) (run m ρ)

end Cert.ReferenceIdeal.Value

end
-- ==== Proof.Kernel.Dequant.lean ====
/-
  The region of @main that unpacks and scales the weights: its proof data from any contents of the buffers at entry, and the body's run.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Kernel.Dequant

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rP : Rect S256x1024 := Rect.unit (s := S256x1024) ![0, 0] S256x1024.size inb_S256x1024_S256x1024_0_0
abbrev rS : Rect S8x1024 := Rect.unit (s := S8x1024) ![0, 0] S8x1024.size inb_S8x1024_S8x1024_0_0
abbrev rW : Rect S512x1024 := Rect.unit (s := S512x1024) ![0, 0] S512x1024.size inb_S512x1024_S512x1024_0_0

/-! The body's vectors that its one store reads more than once. -/

def codes (x0 : Vec F S256x1024 .i8) (x1 : Vec F S8x1024 .f32) : IVec S256x1024 32 :=
  k0_pay2 (View.ld x0 rP)
def scale (x0 : Vec F S256x1024 .i8) (x1 : Vec F S8x1024 .f32) : FVec F S256x1024 .f32 :=
  k0_pay3 (View.ld x1 rS)
def low (x0 : Vec F S256x1024 .i8) (x1 : Vec F S8x1024 .f32) : IVec S256x1024 32 :=
  k0_pay4 (View.ld x0 rP)
def high (x0 : Vec F S256x1024 .i8) (x1 : Vec F S8x1024 .f32) : IVec S256x1024 32 :=
  k0_pay14 (codes x0 x1)

/-- What the body leaves in the output's staging buffer, from the two input blocks. -/
def out (x0 : Vec F S256x1024 .i8) (x1 : Vec F S8x1024 .f32) : Vec F S512x1024 .bf16 :=
  View.canon [⟨rW, k0_pay1 (scale x0 x1) (k0_pay13 (scale x0 x1) (low x0 x1) (k0_pay5 (View.ld x0 rP)) (k0_pay8 (low x0 x1) (k0_pay6 (View.ld x0 rP)) (k0_pay7 (View.ld x0 rP)) 2#32) (k0_pay9 (low x0 x1)) (k0_pay10 (low x0 x1)) (k0_pay11 (F := F) (low x0 x1)) (k0_pay12 (low x0 x1)) (Scalar.ofBits .f32 0xBE3D353F#32) (Scalar.ofBits .f32 0xBE91A24D#32)) (k0_pay15 (codes x0 x1)) (k0_pay18 (F := F) (high x0 x1) (k0_pay16 (codes x0 x1)) (k0_pay17 (codes x0 x1)) 0#32) (k0_pay21 (F := F) (high x0 x1) (k0_pay19 (high x0 x1)) k0_pay20)⟩]

/-- The one store covers the buffer. -/
theorem cover (p0 : Vec F S512x1024 .bf16) (y : S512x1024.Idx) :
    ∃ pc ∈ ([⟨rW, p0⟩] : List (View.Piece (Elt F) S512x1024 .bf16)), y ∈ pc.1.set :=
  View.cover_of_tiled [⟨rW, p0⟩] S512x1024.size (by rfl) y

set_option maxHeartbeats 1000000 in
/-- The body on whole staging memrefs: the inputs stay, the output holds `out` of them. -/
theorem sound_kernel (c : Dev nD) (E : Set ℕ) (i : grid0.Coords) (arg2 : Memref sig .tc .vmem S256x1024 .i8) (harg2 : arg2.IsWhole) (arg3 : Memref sig .tc .vmem S8x1024 .f32) (harg3 : arg3.IsWhole) (arg4 : Memref sig .tc .vmem S512x1024 .bf16) (harg4 : arg4.IsWhole)
    (x0 : Vec F S256x1024 .i8) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) Variants.none c none) E (cc0_dequant i arg2 harg2 arg3 harg3 arg4 harg4) K := by
  simp only [cc0_dequant_eq_skeleton]; unfold cc0_dequant_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover _)).trans ?_
  rfl

/-- The proof data on core `c`: the arrays as found, each input's buffer at its block after the body, the output's at `out`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, window by window. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel.Dequant

end
-- ==== Proof.Kernel.Low.lean ====
/-
  The region `h` of @main (the low-rank product x·A): its proof data from any contents of the buffers at entry, and the body's run.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Kernel.Low

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S1024x4096 := Rect.unit (s := S1024x4096) ![0, 0] S1024x4096.size inb_S1024x4096_S1024x4096_0_0
abbrev rA : Rect S4096x16 := Rect.unit (s := S4096x16) ![0, 0] S4096x16.size inb_S4096x16_S4096x16_0_0
abbrev rH : Rect S1024x16 := Rect.unit (s := S1024x16) ![0, 0] S1024x16.size inb_S1024x16_S1024x16_0_0

/-- What the body leaves in the output's staging buffer, from the two input blocks. -/
def out (x0 : Vec F S1024x4096 .bf16) (x1 : Vec F S4096x16 .bf16) : Vec F S1024x16 .bf16 :=
  View.canon [⟨rH, k1_pay1 (View.ld x0 rX) (View.ld x1 rA)⟩]

/-- The one store covers the buffer. -/
theorem cover (p0 : Vec F S1024x16 .bf16) (y : S1024x16.Idx) :
    ∃ pc ∈ ([⟨rH, p0⟩] : List (View.Piece (Elt F) S1024x16 .bf16)), y ∈ pc.1.set :=
  View.cover_of_tiled [⟨rH, p0⟩] S1024x16.size (by rfl) y

set_option maxHeartbeats 1000000 in
/-- The body on whole staging memrefs: the inputs stay, the output holds `out` of them. -/
theorem sound_kernel (c : Dev nD) (E : Set ℕ) (i : grid1.Coords) (arg1 : Memref sig .tc .vmem S1024x4096 .bf16) (harg1 : arg1.IsWhole) (arg2 : Memref sig .tc .vmem S4096x16 .bf16) (harg2 : arg2.IsWhole) (arg3 : Memref sig .tc .vmem S1024x16 .bf16) (harg3 : arg3.IsWhole)
    (x0 : Vec F S1024x4096 .bf16) (x1 : Vec F S4096x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1_h i arg1 harg1 arg2 harg2 arg3 harg3) K := by
  simp only [cc1_h_eq_skeleton]; unfold cc1_h_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data on core `c`: the arrays as found, each input's buffer at its block after the body, the output's at `out`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out (iblk V c 0 t) (iblk V c 1 t) := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, window by window. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

/-- The body obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Kernel.Low

end
-- ==== Proof.Kernel.Step.lean ====
/-
  The main region of @main: one grid point of its body, as functions of what the point finds, and the run of the body at any point.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.VecWindow

@[expose] public section

set_option maxRecDepth 16384

noncomputable section

namespace Cert.Kernel.Main

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The condition of the body's first `scf.if`: the point is the first of its row block. -/
abbrev cond1 (i : grid2.Coords) : Prop := (Scalar.cmpi .ne (Scalar.extui (Scalar.cmpi .eq (BitVec.ofNat 32 (i 1).val) 0#32)) 0#32) = 1#1

/-- The accumulator of `dy·wᵀ` after a point. -/
def stepAcc (i : grid2.Coords) (x0 : Vec F S512x512 .bf16) (x1 : Vec F S4096x512 .bf16) (s0 : Vec F S512x4096 .f32) : Vec F S512x4096 .f32 :=
  k2_pay10 x0 (if cond1 i then k2_pay5 else s0) x1
/-- The accumulator of `dy·Bᵀ` after a point. -/
def stepGacc (i : grid2.Coords) (x0 : Vec F S512x512 .bf16) (x2 : Vec F S16x512 .bf16) (s1 : Vec F S512x16 .f32) : Vec F S512x16 .f32 :=
  k2_pay11 x0 (if cond1 i then k2_pay6 else s1) x2
/-- The output dx's buffer after a point. -/
def stepDx (i : grid2.Coords) (x0 : Vec F S512x512 .bf16) (x1 : Vec F S4096x512 .bf16) (x2 : Vec F S16x512 .bf16) (x5 : Vec F S4096x16 .bf16)
    (s0 : Vec F S512x4096 .f32) (s1 : Vec F S512x16 .f32) (d6 : Vec F S512x4096 .bf16) : Vec F S512x4096 .bf16 :=
  if k2_cond3 i = 1#1 then k2_pay3 (stepGacc i x0 x2 s1) x5 (stepAcc i x0 x1 s0) else d6
/-- The output g's buffer after a point. -/
def stepG (i : grid2.Coords) (x0 : Vec F S512x512 .bf16) (x2 : Vec F S16x512 .bf16) (s1 : Vec F S512x16 .f32) (d7 : Vec F S512x16 .bf16) : Vec F S512x16 .bf16 :=
  if k2_cond3 i = 1#1 then k2_pay2 (stepGacc i x0 x2 s1) else d7
/-- The gradient of A's buffer after a point. -/
def stepDla (i : grid2.Coords) (x0 : Vec F S512x512 .bf16) (x2 : Vec F S16x512 .bf16) (x4 : Vec F S512x4096 .bf16) (s1 : Vec F S512x16 .f32)
    (d8 : Vec F S16x4096 .f32) : Vec F S16x4096 .f32 :=
  if k2_cond3 i = 1#1 then k2_pay4 (stepGacc i x0 x2 s1) (if k2_cond2 i = 1#1 then k2_pay7 else d8) x4
  else if k2_cond2 i = 1#1 then k2_pay7 else d8
/-- The gradient of B's buffer after a point: its column block at the point's offset has the block's product added. -/
def stepDlb (i : grid2.Coords) (x0 : Vec F S512x512 .bf16) (x3 : Vec F S512x16 .bf16) (d9 : Vec F S16x14336 .f32) : Vec F S16x14336 .f32 :=
  VecWindow.put (if k2_cond2 i = 1#1 then k2_pay8 else d9) (k2_off1 i) S16x512.size
    (k2_pay1 (k2_pay9 x0) (k2_pay12 (VecWindow.window (if k2_cond2 i = 1#1 then k2_pay8 else d9) (k2_off1 i) S16x512.size (k2_off1_inb i))) x3)

set_option maxHeartbeats 4000000 in
/-- The body at any point, on whole staging memrefs and scratch: the six inputs stay, every other buffer holds its step of what it held. -/
theorem sound_kernel (c : Dev nD) (E : Set ℕ) (i : grid2.Coords) (arg2 : Memref sig .tc .vmem S512x512 .bf16) (harg2 : arg2.IsWhole) (arg3 : Memref sig .tc .vmem S4096x512 .bf16) (harg3 : arg3.IsWhole) (arg4 : Memref sig .tc .vmem S16x512 .bf16) (harg4 : arg4.IsWhole) (arg5 : Memref sig .tc .vmem S512x16 .bf16) (harg5 : arg5.IsWhole) (arg6 : Memref sig .tc .vmem S512x4096 .bf16) (harg6 : arg6.IsWhole) (arg7 : Memref sig .tc .vmem S4096x16 .bf16) (harg7 : arg7.IsWhole) (arg8 : Memref sig .tc .vmem S512x4096 .bf16) (harg8 : arg8.IsWhole) (arg9 : Memref sig .tc .vmem S512x16 .bf16) (harg9 : arg9.IsWhole) (arg10 : Memref sig .tc .vmem S16x4096 .f32) (harg10 : arg10.IsWhole) (arg11 : Memref sig .tc .vmem S16x14336 .f32) (harg11 : arg11.IsWhole) (arg12 : Memref sig .tc .vmem S512x4096 .f32) (harg12 : arg12.IsWhole) (arg13 : Memref sig .tc .vmem S512x16 .f32) (harg13 : arg13.IsWhole)
    (x0 : Vec F S512x512 .bf16) (x1 : Vec F S4096x512 .bf16) (x2 : Vec F S16x512 .bf16) (x3 : Vec F S512x16 .bf16) (x4 : Vec F S512x4096 .bf16) (x5 : Vec F S4096x16 .bf16) (d6 : Vec F S512x4096 .bf16) (d7 : Vec F S512x16 .bf16) (d8 : Vec F S16x4096 .f32) (d9 : Vec F S16x14336 .f32) (s0 : Vec F S512x4096 .f32) (s1 : Vec F S512x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d8 ∗ owns (c : Thread nD τ) arg11 fullShare d9 ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (stepDx i x0 x1 x2 x5 s0 s1 d6) ∗ owns (c : Thread nD τ) arg9 fullShare (stepG i x0 x2 s1 d7) ∗ owns (c : Thread nD τ) arg10 fullShare (stepDla i x0 x2 x4 s1 d8) ∗ owns (c : Thread nD τ) arg11 fullShare (stepDlb i x0 x3 d9) ∗ owns (c : Thread nD τ) arg12 fullShare (stepAcc i x0 x1 s0) ∗ owns (c : Thread nD τ) arg13 fullShare (stepGacc i x0 x2 s1)) -∗ K ⟨⟩))
      ⊢ wp frame (wpE (defs₀ (F := F)) Variants.none c none) E (cc2_main i arg2 harg2 arg3 harg3 arg4 harg4 arg5 harg5 arg6 harg6 arg7 harg7 arg8 harg8 arg9 harg9 arg10 harg10 arg11 harg11 arg12 harg12 arg13 harg13) K := by
  simp only [cc2_main_eq_skeleton]; unfold cc2_main_skel
  simp only [k2_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  by_cases hc1 : cond1 i <;> by_cases hc2 : k2_cond2 i = 1#1 <;> by_cases hc3 : k2_cond3 i = 1#1
  all_goals
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr
      swap; · iexact H8
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    isplitl [H9]
    · iexists _; isplitr
      swap; · iexact H9
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    isplitl [H10]
    · iexists _; isplitr
      swap; · iexact H10
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    isplitl [H11]
    · iexists _; isplitr
      swap; · iexact H11
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    isplitl [H12]
    · iexists _; isplitr
      swap; · iexact H12
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    iexists _; isplitr
    swap; · iexact H13
    ipureintro
    try sl_unfold_run_names
    try simp only [stepDx, stepG, stepDla, stepDlb, stepAcc, stepGacc]
    try simp only [if_pos hc1]
    try simp only [if_pos hc2]
    try simp only [if_pos hc3]
    try simp only [if_neg hc1]
    try simp only [if_neg hc2]
    try simp only [if_neg hc3]
    simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]

end Cert.Kernel.Main

end
-- ==== Proof.Kernel.Main.lean ====
/-
  The main region of @main over its whole grid: what is carried from point to point, the proof data, and the body obligation.
-/
module

public import proofs.«01_k».proof.Proof.Kernel.Step
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.TableIdle

@[expose] public section

set_option maxRecDepth 16384

noncomputable section

namespace Cert.Kernel.Main

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The four accumulators before point `n` -/

/-- The accumulator of `dy·wᵀ`. -/
def sAcc (c : Dev nD) : ℕ → Vec F S512x4096 .f32
  | 0 => k2_pay5
  | n + 1 => if h : n < cfg2.N then stepAcc (grid2.coords ⟨n, h⟩) (iblk V c 0 ⟨n, h⟩) (iblk V c 1 ⟨n, h⟩) (sAcc c n) else sAcc c n
/-- The accumulator of `dy·Bᵀ`. -/
def sGacc (c : Dev nD) : ℕ → Vec F S512x16 .f32
  | 0 => k2_pay6
  | n + 1 => if h : n < cfg2.N then stepGacc (grid2.coords ⟨n, h⟩) (iblk V c 0 ⟨n, h⟩) (iblk V c 2 ⟨n, h⟩) (sGacc c n) else sGacc c n
/-- The gradient of A. -/
def sDla (c : Dev nD) : ℕ → Vec F S16x4096 .f32
  | 0 => k2_pay7
  | n + 1 => if h : n < cfg2.N then stepDla (grid2.coords ⟨n, h⟩) (iblk V c 0 ⟨n, h⟩) (iblk V c 2 ⟨n, h⟩) (iblk V c 4 ⟨n, h⟩) (sGacc V c n) (sDla c n) else sDla c n
/-- The gradient of B. -/
def sDlb (c : Dev nD) : ℕ → Vec F S16x14336 .f32
  | 0 => k2_pay8
  | n + 1 => if h : n < cfg2.N then stepDlb (grid2.coords ⟨n, h⟩) (iblk V c 0 ⟨n, h⟩) (iblk V c 3 ⟨n, h⟩) (sDlb c n) else sDlb c n

theorem sAcc_succ (c : Dev nD) (t : Fin cfg2.N) : sAcc V c (t.val + 1) = stepAcc (grid2.coords t) (iblk V c 0 t) (iblk V c 1 t) (sAcc V c t.val) := dif_pos t.isLt
theorem sGacc_succ (c : Dev nD) (t : Fin cfg2.N) : sGacc V c (t.val + 1) = stepGacc (grid2.coords t) (iblk V c 0 t) (iblk V c 2 t) (sGacc V c t.val) := dif_pos t.isLt
theorem sDla_succ (c : Dev nD) (t : Fin cfg2.N) :
    sDla V c (t.val + 1) = stepDla (grid2.coords t) (iblk V c 0 t) (iblk V c 2 t) (iblk V c 4 t) (sGacc V c t.val) (sDla V c t.val) := dif_pos t.isLt
theorem sDlb_succ (c : Dev nD) (t : Fin cfg2.N) : sDlb V c (t.val + 1) = stepDlb (grid2.coords t) (iblk V c 0 t) (iblk V c 3 t) (sDlb V c t.val) := dif_pos t.isLt

/-! ## The points' conditions -/

theorem cond1_iff : ∀ t : Fin cfg2.N, cond1 (grid2.coords t) ↔ t.val % 28 = 0 := by decide +kernel
theorem cond2_iff : ∀ t : Fin cfg2.N, k2_cond2 (grid2.coords t) = 1#1 ↔ t.val = 0 := by decide +kernel
theorem cond3_iff : ∀ t : Fin cfg2.N, k2_cond3 (grid2.coords t) = 1#1 ↔ t.val % 28 = 27 := by decide +kernel
theorem idle_6 : ∀ t : Fin cfg2.N, cfg2.idle 6 (grid2.coords t) = !decide (t.val % 28 = 27) := by decide +kernel
theorem idle_7 : ∀ t : Fin cfg2.N, cfg2.idle 7 (grid2.coords t) = !decide (t.val % 28 = 27) := by decide +kernel
theorem idle_8 : ∀ t : Fin cfg2.N, cfg2.idle 8 (grid2.coords t) = !(decide (t.val = 0) || decide (t.val % 28 = 27)) := by decide +kernel

/-- Output 8's buffer holds nothing stored by the body only before the first point (and past the last). -/
theorem fresh_8 (t : Fin cfg2.N) : cfg2.fresh 8 t.val = (decide (t.val = 0) || decide (t.val = 896)) :=
  Pipeline.Cfg.fresh_tab cfg2 8 (fun n => decide (n = 0) || decide (n = 896)) rfl (by decide +kernel) t.val (Nat.le_of_lt t.isLt)

/-! ## A step from what the point finds is the next accumulator: at the first point whatever it finds -/

theorem acc_next (c : Dev nD) (t : Fin cfg2.N) (s) (h : t.val ≠ 0 → s = sAcc V c t.val) :
    stepAcc (grid2.coords t) (iblk V c 0 t) (iblk V c 1 t) s = sAcc V c (t.val + 1) := by
  rw [sAcc_succ]
  by_cases h0 : t.val = 0
  · unfold stepAcc; rw [if_pos ((cond1_iff t).mpr (by omega)), if_pos ((cond1_iff t).mpr (by omega))]
  · rw [h h0]
theorem gacc_next (c : Dev nD) (t : Fin cfg2.N) (s) (h : t.val ≠ 0 → s = sGacc V c t.val) :
    stepGacc (grid2.coords t) (iblk V c 0 t) (iblk V c 2 t) s = sGacc V c (t.val + 1) := by
  rw [sGacc_succ]
  by_cases h0 : t.val = 0
  · unfold stepGacc; rw [if_pos ((cond1_iff t).mpr (by omega)), if_pos ((cond1_iff t).mpr (by omega))]
  · rw [h h0]
theorem dla_next (c : Dev nD) (t : Fin cfg2.N) (s d) (h : t.val ≠ 0 → s = sGacc V c t.val) (hd : t.val ≠ 0 → d = sDla V c t.val) :
    stepDla (grid2.coords t) (iblk V c 0 t) (iblk V c 2 t) (iblk V c 4 t) s d = sDla V c (t.val + 1) := by
  rw [sDla_succ]; unfold stepDla
  rw [gacc_next V c t s h, ← sGacc_succ V c t]
  by_cases h0 : t.val = 0
  · rw [if_pos ((cond2_iff t).mpr h0), if_pos ((cond2_iff t).mpr h0)]
  · rw [hd h0]
theorem dlb_next (c : Dev nD) (t : Fin cfg2.N) (d) (hd : t.val ≠ 0 → d = sDlb V c t.val) :
    stepDlb (grid2.coords t) (iblk V c 0 t) (iblk V c 3 t) d = sDlb V c (t.val + 1) := by
  rw [sDlb_succ]
  by_cases h0 : t.val = 0
  · unfold stepDlb; rw [if_pos ((cond2_iff t).mpr h0), if_pos ((cond2_iff t).mpr h0)]
  · rw [hd h0]

/-! ## The region's invariant -/

abbrev sc0 : Memref sig .tc .vmem S512x4096 .f32 := Memref.whole cc2_scratch0
abbrev sc1 : Memref sig .tc .vmem S512x16 .f32 := Memref.whole cc2_scratch1

/-- The other regions' staging buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before point `n`: the two scratch accumulators (at anything before the first point), the other regions' staging buffers, and
    the generator register at some state. -/
def Phi (c : Dev nD) (n : ℕ) : sProp 𝕄 :=
  iprop((∃ s0, ∃ s1, ⌜(n ≠ 0 → s0 = sAcc V c n) ∧ (n ≠ 0 → s1 = sGacc V c n)⌝ ∗ owns (c : Thread nD τ) sc0 fullShare s0 ∗ owns (c : Thread nD τ) sc1 fullShare s1)
    ∗ others c ∗ (∃ r, prngReg c r))

theorem Phi_in (c : Dev nD) : iprop(Pipeline.scopedRest (Ix := Unit) (Name := ℕ) (U := UR sig nD τ) (Lvl := ℕ) (Val := Elt F) spec2 c ∗ (∃ r, prngReg c r)) ⊢ Phi V c 0 := by
  rw [scopedRest2_eq]; unfold Phi others
  simp only [sc0, sc1, owns_whole]
  iintro ⟨⟨Q0, Q1, Q2, Q3, Q4, Q5, Q6, Q7, Q8, Q9, Q10, ⟨%s0, S0⟩, ⟨%s1, S1⟩⟩, Hp⟩
  isplitl [S0 S1]
  · iexists s0, s1
    isplitr
    · ipureintro; exact ⟨fun h => absurd rfl h, fun h => absurd rfl h⟩
    isplitl [S0]; · iexact S0
    iexact S1
  isplitr [Hp]
  · iframe
  iexact Hp

theorem Phi_out (c : Dev nD) (n : ℕ) : Phi V c n ⊢ iprop(Pipeline.scopedRest (Ix := Unit) (Name := ℕ) (U := UR sig nD τ) (Lvl := ℕ) (Val := Elt F) spec2 c ∗ (∃ r, prngReg c r)) := by
  rw [scopedRest2_eq]; unfold Phi others
  simp only [sc0, sc1, owns_whole]
  iintro ⟨⟨%s0, %s1, -, S0, S1⟩, ⟨Q0, Q1, Q2, Q3, Q4, Q5, Q6, Q7, Q8, Q9, Q10⟩, Hp⟩
  isplitr [Hp]
  · iframe
    isplitl [S0]
    · iexists s0; iexact S0
    iexists s1; iexact S1
  iexact Hp

/-! ## The proof data -/

/-- The proof data on core `c`: the arrays as found; each input's buffer at its block after the body, the outputs' as accumulated. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k2_pay3 (sGacc V c (t.val + 1)) (iblk V c 5 t) (sAcc V c (t.val + 1))
    | ⟨7, _⟩ => k2_pay2 (sGacc V c (t.val + 1))
    | ⟨8, _⟩ => sDla V c (t.val + 1)
    | ⟨9, _⟩ => sDlb V c (t.val + 1)
  Φ t := Phi V c t.val
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = k2_pay3 (sGacc V c (t.val + 1)) (iblk V c 5 t) (sAcc V c (t.val + 1)) := by dsimp only [dat]
theorem after_7 (c : Dev nD) (t : Fin cfg2.N) : (dat V c).after 7 t = k2_pay2 (sGacc V c (t.val + 1)) := by dsimp only [dat]
theorem after_8 (c : Dev nD) (t : Fin cfg2.N) : (dat V c).after 8 t = sDla V c (t.val + 1) := by dsimp only [dat]
theorem after_9 (c : Dev nD) (t : Fin cfg2.N) : (dat V c).after 9 t = sDlb V c (t.val + 1) := by dsimp only [dat]

/-- Each input's current staging buffer holds its block at every point, fetched there or not. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Output 8's contents carry through the points that leave it idle. -/
theorem carry_8 (c : Dev nD) : ∀ (t : Fin cfg2.N) (_ : t.val ≠ 0), cfg2.idle 8 (grid2.coords t) = true → cfg2.fresh 8 t.val = false →
    (dat V c).after 8 t = (dat V c).after 8 ⟨t.val - 1, by omega⟩ := by
  intro t h0 hi _
  rw [after_8, after_8, sDla_succ]
  have hi := (idle_8 t).symm.trans hi
  simp only [Bool.not_eq_true', Bool.or_eq_false_iff, decide_eq_false_iff_not] at hi
  unfold stepDla
  rw [if_neg (fun h => hi.2 ((cond3_iff t).mp h)), if_neg (fun h => h0 ((cond2_iff t).mp h))]
  dsimp only
  rw [Nat.sub_add_cancel (Nat.one_le_iff_ne_zero.mpr h0)]
theorem before_8 (c : Dev nD) (t : Fin cfg2.N) (h0 : t.val ≠ 0) (d) : (dat V c).before 8 t d = sDla V c t.val := by
  have hN : t.val < 896 := lt_of_lt_of_eq t.isLt (show cfg2.N = 896 from N_2)
  rw [Dat.before_out_traj _ 8 rfl (fun _ _ => rfl) (carry_8 V c) t.val t rfl d,
    if_neg (by rw [fresh_8 t, decide_eq_false h0, decide_eq_false (by omega)]; exact Bool.false_ne_true)]
  rw [after_8]; dsimp only
  rw [Nat.sub_add_cancel (Nat.one_le_iff_ne_zero.mpr h0)]
/-- Output 9's buffer holds what the point before left. -/
theorem before_9 (c : Dev nD) (t : Fin cfg2.N) (h0 : t.val ≠ 0) (d) : (dat V c).before 9 t d = sDlb V c t.val := by
  have hN : t.val < 896 := lt_of_lt_of_eq t.isLt (show cfg2.N = 896 from N_2)
  rw [Dat.before_out_kept _ 9 rfl t h0 (Bool.eq_false_iff.mpr fun h => by have := (flush2_9 _).mp h; dsimp only at this; omega)
    (fun _ => rfl) (fun _ _ => rfl), after_9]
  dsimp only
  rw [Nat.sub_add_cancel (Nat.one_le_iff_ne_zero.mpr h0)]

/-! ## The body obligation -/

/-- What the body is called with at point `t`, window by window. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d)))

/-- What it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 4000000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = Phi V c (t.val + 1) from rfl, show (dat V c).Φ t.castSucc = Phi V c t.val from rfl,
    show (dat V c).owesAt () t.succ = (dat V c).owesAt () t.castSucc from rfl]
  unfold Phi
  iintro ⟨⟨⟨%s0, %s1, %hs, S0, S1⟩, Hoth, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid2.coords t) _ _ _ _ _ _ _ _ _ _ _ _ _ _ _ _ _ _ _ _ sc0 _ sc1 _ (iblk V c 0 t) (iblk V c 1 t) (iblk V c 2 t) (iblk V c 3 t) (iblk V c 4 t) (iblk V c 5 t) ((dat V c).before 6 t d6) ((dat V c).before 7 t d7) ((dat V c).before 8 t d8) ((dat V c).before 9 t d9) s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  have e6 : stepDx (grid2.coords t) (iblk V c 0 t) (iblk V c 1 t) (iblk V c 2 t) (iblk V c 5 t) s0 s1 ((dat V c).before 6 t d6)
      = if k2_cond3 (grid2.coords t) = 1#1 then (dat V c).after 6 t else (dat V c).before 6 t d6 := by
    unfold stepDx; rw [acc_next V c t s0 hs.1, gacc_next V c t s1 hs.2, after_6]
  have e7 : stepG (grid2.coords t) (iblk V c 0 t) (iblk V c 2 t) s1 ((dat V c).before 7 t d7)
      = if k2_cond3 (grid2.coords t) = 1#1 then (dat V c).after 7 t else (dat V c).before 7 t d7 := by
    unfold stepG; rw [gacc_next V c t s1 hs.2, after_7]
  rw [acc_next V c t s0 hs.1, gacc_next V c t s1 hs.2, e6, e7,
    dla_next V c t s1 ((dat V c).before 8 t d8) hs.2 (fun h => before_8 V c t h d8),
    dlb_next V c t ((dat V c).before 9 t d9) (fun h => before_9 V c t h d9)]
  iintro ⟨H0, H1, H2, H3, H4, H5, H6, H7, H8, H9, S0, S1⟩
  isplitl [S0 S1 Hoth Hp]
  · isplitl [S0 S1]
    · iexists _, _
      isplitr
      · ipureintro; exact ⟨fun _ => rfl, fun _ => rfl⟩
      isplitl [S0]; · iexact S0
      iexact S1
    isplitl [Hoth]; · iexact Hoth
    iexact Hp
  isplitl [Ho]; · iexact Ho
  isplitl [H0]; · rw [← after_0]; iexact H0
  isplitl [H1]; · rw [← after_1]; iexact H1
  isplitl [H2]; · rw [← after_2]; iexact H2
  isplitl [H3]; · rw [← after_3]; iexact H3
  isplitl [H4]; · rw [← after_4]; iexact H4
  isplitl [H5]; · rw [← after_5]; iexact H5
  isplitl [H6]
  · by_cases h : t.val % 28 = 27
    · rw [if_pos ((cond3_iff t).mpr h)]
      unfold Dat.leavesExact; rw [show cfg2.idle 6 (cfg2.grid.coords t) = false from (idle_6 t).trans (by rw [decide_eq_true h]; rfl)]
      iexact H6
    · rw [if_neg (fun h' => h ((cond3_iff t).mp h'))]
      rw [Dat.leavesExact_idle (dat V c) 6 t ((idle_6 t).trans (by rw [decide_eq_false h]; rfl)) (Bool.eq_false_iff.mpr fun h' => h ((flush2_6 t).mp h'))]
      iexists _; iexact H6
  isplitl [H7]
  · by_cases h : t.val % 28 = 27
    · rw [if_pos ((cond3_iff t).mpr h)]
      unfold Dat.leavesExact; rw [show cfg2.idle 7 (cfg2.grid.coords t) = false from (idle_7 t).trans (by rw [decide_eq_true h]; rfl)]
      iexact H7
    · rw [if_neg (fun h' => h ((cond3_iff t).mp h'))]
      rw [Dat.leavesExact_idle (dat V c) 7 t ((idle_7 t).trans (by rw [decide_eq_false h]; rfl)) (Bool.eq_false_iff.mpr fun h' => h ((flush2_7 t).mp h'))]
      iexists _; iexact H7
  isplitl [H8]
  · by_cases h : t.val = 0 ∨ t.val % 28 = 27
    · unfold Dat.leavesExact; rw [show cfg2.idle 8 (cfg2.grid.coords t) = false from (idle_8 t).trans (by rcases h with h | h <;> simp [h])]
      rw [← after_8]; iexact H8
    · have hN : t.val < 896 := lt_of_lt_of_eq t.isLt (show cfg2.N = 896 from N_2)
      rw [Dat.leavesExact_idle (dat V c) 8 t ((idle_8 t).trans (by simpa using h)) (Bool.eq_false_iff.mpr fun h' => by have := (flush2_8 t).mp h'; omega)]
      iexists d8
      rw [before_8 V c t (by omega) d8, show sDla V c (t.val + 1) = sDla V c t.val from by
        rw [sDla_succ]; unfold stepDla
        rw [if_neg (fun h' => h (.inr ((cond3_iff t).mp h'))), if_neg (fun h' => h (.inl ((cond2_iff t).mp h')))]]
      iexact H8
  rw [← after_9]; iexact H9

/-- The body table's row at point `t`'s slots is the body. -/
theorem defs₀_row (t : Fin cfg2.N) : defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Kernel.Main

end
-- ==== Proof.Kernel.Run.lean ====
/-
  The whole of @main, run: its three regions and two host stretches, from any memory with zero counters. Every final state holds each
  unscoped buffer at the contents the last valuation gives it, and every semaphore counter at zero.
-/
module

public import proofs.«01_k».proof.Proof.Kernel.Dequant
public import proofs.«01_k».proof.Proof.Kernel.Low
public import proofs.«01_k».proof.Proof.Kernel.Main
public import proofs.«01_k».proof.Proof.Gen.Kernel.Regions
public import Idealize.ShloMosaic.Lib.Pipeline.RegionArraysS

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- After the first host stretch, as the unpacking region finds them. -/
def U1 (c : Dev nD) : Valuation τ sig (Elt F) := StableHlo.after hostOps0 (V0 m c)
/-- After the unpacking region, as the low-rank region finds them. -/
def U2 (c : Dev nD) : Valuation τ sig (Elt F) := Pipeline.afterRegion (Dequant.dat (U1 m) c) (U1 m c)
/-- After the low-rank region, as the main region finds them. -/
def U3 (c : Dev nD) : Valuation τ sig (Elt F) := Pipeline.afterRegion (Low.dat (U2 m) c) (U2 m c)
/-- After the main region. -/
def U4 (c : Dev nD) : Valuation τ sig (Elt F) := Pipeline.afterRegion (Main.dat (U3 m) c) (U3 m c)
/-- After the last host stretch. -/
def U5 (c : Dev nD) : Valuation τ sig (Elt F) := StableHlo.after hostOps3 (U4 m c)

/-! ## The regions' records -/

/-- The three regions' proof data. -/
def pdats : (p : Fin 3) → (c : Dev nD) → Dat τ (Elt F) Unit ℕ (UR sig nD τ) ℕ (cfgs p) c
  | 0 => Dequant.dat (U1 m)
  | 1 => Low.dat (U2 m)
  | 2 => Main.dat (U3 m)

/-- Every TensorCore counter has the one level name, no other has any. -/
def Lv (g : GSem nD τ sig) : Finset Unit := if g.1.2 = .tc then {()} else ∅
/-- The one level is 0. -/
def lv (_ : GSem nD τ sig) (_ : Unit) : ℕ := 0
theorem Lv_off (g : GSem nD τ sig) (h : g.1.2 ≠ .tc) : Lv g = ∅ := if_neg h
theorem cut (p : Fin 3) : Pipeline.LevelCut (pcfgs (F := F)) adm () Lv lv p (fun _ : Dev nD => 0) (fun _ => 0) where
  hι c w s := by simp [Lv]
  hιb c w s := le_refl _
  hD c g i h := absurd h (by simp)

/-- What rides beside the buffers: nothing owed, and the generator register. -/
abbrev side (c : Dev nD) : sProp 𝕄 := iprop((∃ Wd, owes (c : Thread nD τ) (0 : CellTallies nD τ sig Unit) Wd) ∗ (∃ r, prngReg c r) ∗ BI.emp)

abbrev reg (p : Fin 3) := RegionSeg (pcfgs (F := F)) adm (pdats m) () defs₀ Variants.none Lv lv p

def reg0 : reg m 0 :=
  RegionSeg.ofHeldIn (pcfgs (F := F)) adm (pdats m) () defs₀ Variants.none Lv lv 0 (fun _ => 0) (Pipeline.ucRefs τ sig)
    (fun c => iprop(∃ r, prngReg c r)) (fun c => iprop(∃ r, prngReg c r)) launch0.toP rfl
    (fun c => (Dequant.body_obligation (U1 m) c).loose) (fun _ _ => rfl) (fun _ => rfl) (fun c w => Dat.share_full (Dequant.dat (U1 m) c) (fun _ => rfl) w)
    (fun c => .rfl) (fun c => .rfl) (fun _ => 0) (cut 0) (fun _ => BI.emp) (U1 m) (fun c w => rfl)

def reg1 : reg m 1 :=
  RegionSeg.ofHeldIn (pcfgs (F := F)) adm (pdats m) () defs₀ Variants.none Lv lv 1 (fun _ => 0) (Pipeline.ucRefs τ sig)
    (fun c => iprop(∃ r, prngReg c r)) (fun c => iprop(∃ r, prngReg c r)) launch1.toP rfl
    (fun c => (Low.body_obligation (U2 m) c).loose) (fun _ _ => rfl) (fun _ => rfl) (fun c w => Dat.share_full (Low.dat (U2 m) c) (fun _ => rfl) w)
    (fun c => .rfl) (fun c => .rfl) (fun _ => 0) (cut 1) (fun _ => BI.emp) (U2 m) (fun c w => rfl)

def reg2 : reg m 2 :=
  RegionSeg.ofHeldIn (pcfgs (F := F)) adm (pdats m) () defs₀ Variants.none Lv lv 2 (fun _ => 0) (Pipeline.ucRefs τ sig)
    (fun c => iprop(∃ r, prngReg c r)) (fun c => iprop(∃ r, prngReg c r)) launch2.toP rfl
    (fun c => (Main.body_obligation (U3 m) c).loose) (fun _ _ => rfl) (fun _ => rfl) (fun c w => Dat.share_full (Main.dat (U3 m) c) (fun _ => rfl) w)
    (fun c => Main.Phi_in (U3 m) c) (fun c => Main.Phi_out (U3 m) c _) (fun _ => 0) (cut 2) (fun _ => BI.emp) (U3 m) (fun c w => rfl)

/-! ## Each region's entry and exit -/

theorem U2_eq (c : Dev nD) : U2 m c = Pipeline.afterRegion (pdats m 0 c) (U1 m c) := by with_unfolding_all rfl
theorem U3_eq (c : Dev nD) : U3 m c = Pipeline.afterRegion (pdats m 1 c) (U2 m c) := by with_unfolding_all rfl
theorem U4_eq (c : Dev nD) : U4 m c = Pipeline.afterRegion (pdats m 2 c) (U3 m c) := by with_unfolding_all rfl
theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)
theorem sub2 : Pipeline.arrRefs (τ := τ) (pcfgs (F := F) 2).spec ⊆ Pipeline.ucRefs τ sig := Pipeline.arrRefs_sub_ucRefs spec2 (by decide)
theorem pre0 (c : Dev nD) : iprop(StableHlo.held (c : Thread nD τ) (Pipeline.ucRefs τ sig) (U1 m c) ∗ side c) ⊢ (reg0 m).pre c := by
  unfold reg0; exact RegionSeg.ofHeldIn_pre (D := fun _ => 0) (S := Pipeline.ucRefs τ sig) (X := fun c => iprop(∃ r, prngReg c r)) (Y := fun c => iprop(∃ r, prngReg c r)) (R := fun _ => BI.emp) (W := U1 m) sub0 c
theorem post0 (c : Dev nD) : (reg0 m).post c ⊢ iprop(StableHlo.held (c : Thread nD τ) (Pipeline.ucRefs τ sig) (U2 m c) ∗ side c) := by
  rw [U2_eq]; unfold reg0; exact RegionSeg.ofHeldIn_post sub0 c
theorem pre1 (c : Dev nD) : iprop(StableHlo.held (c : Thread nD τ) (Pipeline.ucRefs τ sig) (U2 m c) ∗ side c) ⊢ (reg1 m).pre c := by
  unfold reg1; exact RegionSeg.ofHeldIn_pre (D := fun _ => 0) (S := Pipeline.ucRefs τ sig) (X := fun c => iprop(∃ r, prngReg c r)) (Y := fun c => iprop(∃ r, prngReg c r)) (R := fun _ => BI.emp) (W := U2 m) sub1 c
theorem post1 (c : Dev nD) : (reg1 m).post c ⊢ iprop(StableHlo.held (c : Thread nD τ) (Pipeline.ucRefs τ sig) (U3 m c) ∗ side c) := by
  rw [U3_eq]; unfold reg1; exact RegionSeg.ofHeldIn_post sub1 c
theorem pre2 (c : Dev nD) : iprop(StableHlo.held (c : Thread nD τ) (Pipeline.ucRefs τ sig) (U3 m c) ∗ side c) ⊢ (reg2 m).pre c := by
  unfold reg2; exact RegionSeg.ofHeldIn_pre (D := fun _ => 0) (S := Pipeline.ucRefs τ sig) (X := fun c => iprop(∃ r, prngReg c r)) (Y := fun c => iprop(∃ r, prngReg c r)) (R := fun _ => BI.emp) (W := U3 m) sub2 c
theorem post2 (c : Dev nD) : (reg2 m).post c ⊢ iprop(StableHlo.held (c : Thread nD τ) (Pipeline.ucRefs τ sig) (U4 m c) ∗ side c) := by
  rw [U4_eq]; unfold reg2; exact RegionSeg.ofHeldIn_post sub2 c

/-- The first host stretch. -/
def host0 : HostSeg (Ix := Unit) (Name := ℕ) (U := UR sig nD τ) (Lvl := ℕ) (pcfgs (F := F)) defs₀ Variants.none Lv lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) side
/-- The last host stretch. -/
def host3 : HostSeg (Ix := Unit) (Name := ℕ) (U := UR sig nD τ) (Lvl := ℕ) (pcfgs (F := F)) defs₀ Variants.none Lv lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U4 m) side

/-- @main's items. -/
def items (_ : Dev nD) : List (Seg (pcfgs (F := F)) adm (pdats m) () defs₀ Variants.none Lv lv) :=
  [.host (host0 m), .region (reg0 m), .region (reg1 m), .region (reg2 m), .host (host3 m)]

/-! ## The run -/

/-- What the launch hands a core is the first item's thread state. -/
theorem start (c : Dev nD) : iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp)
    ⊢ (iprop(StableHlo.held (c : Thread nD τ) (Pipeline.ucRefs τ sig) (V0 m c) ∗ side c) : sProp 𝕄) := by
  rw [← Pipeline.unscopedBufs_held (Ix := Unit) (Name := ℕ) (U := UR sig nD τ) (Lvl := ℕ) c (V0 m c)]
  iintro ⟨Hb, -, Ho, -, Hp, -⟩
  isplitl [Hb]; · iexact Hb
  isplitl [Ho]; · iexists _; iexact Ho
  isplitl [Hp]; · iexists _; iexact Hp
  iempintro

set_option backward.isDefEq.respectTransparency.types false in
/-- Every weakly fair execution of @main terminates, with every unscoped buffer at `U5` and every counter at zero. -/
theorem run :
    θ_run defs (onTc (τ := τ) (main (F := F))) ⟨m, fun _ => 0, ρ⟩ (fun r =>
      (∀ c : Dev nD, ∀ b : Ref sig .tc, b.isScoped = false → r.2.mem ((c.tc : Thread nD τ).loc b) = U5 m c (Proc.devRef .tc b))
      ∧ r.2.sem = fun _ => 0) := by
  refine Pipeline.θ_run_regions_kit_dev_sems (pcfgs (F := F)) adm (pdats m) () cellOf_inj emb₁ defs₀ Variants.none Lv lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0) Lv_off
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ side c))
    (Tₙ := fun c => StableHlo.held (c : Thread nD τ) (Pipeline.ucRefs τ sig) (U5 m c))
    (hch := fun c => ⟨.rfl, pre0 m c, (post0 m c).trans (pre1 m c), (post1 m c).trans (pre2 m c), post2 m c, sep_mono .rfl (by iintro ⟨H, -⟩; iexact H)⟩)
    (hinit := ?_) (QY := fun c s => ∀ b : Ref sig .tc, b.isScoped = false → s.mem ((c.tc : Thread nD τ).loc b) = U5 m c (Proc.devRef .tc b))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ side c) : sProp 𝕄) :=
      bigSep_mono fun c _ => start m ρ c
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (U5 m c) s') $$ [Hh HSI]
    · isplitl [Hh] <;> iassumption
    icases Hr with ⟨%h, HSI⟩
    imodintro
    isplitr
    · ipureintro
      exact fun b hb => h (Proc.devRef .tc b) (Pipeline.devRef_mem_ucRefs hb)
    · iexact HSI

end Cert.Kernel.Run

end
-- ==== Proof.Kernel.Keep.lean ====
/-
  What the run leaves alone: an argument array is no output of any region and written by neither host stretch, so it ends
  as it began; and every counter ends at zero.
-/
module

public import proofs.«01_k».proof.Proof.Kernel.Run

@[expose] public section

set_option maxRecDepth 16384

noncomputable section

namespace Cert.Kernel.Run

open Cert.Kernel Cert.Kernel.Gen
open Idealize.ShloMosaic Idealize.ShloMosaic.TcCoe
open Idealize.SL.Sem
open Idealize.ShloMosaic.Pipeline (Dat Cfg Window)

variable {F : FTy → Type} [BitOps F]

variable (m : (ℓ : Loc nD τ sig) → Buf (Elt F) ℓ) (ρ : Dev nD → PrngReg)

/-- A buffer the first host stretch writes nothing into is, after it, as launched. -/
theorem U1_of (c : Dev nD) (r : Ref sig .tc) (h : r ∉ hostOps0_W) : U1 m c (Proc.devRef .tc r) = m ((c.tc : Thread nD τ).loc r) :=
  StableHlo.after_of_writes_sub hostOps0 _ hostOps0_writes h

/-- A buffer that is no output of the unpacking region is, after it, as before it. -/
theorem U2_of (c : Dev nD) (r : Ref sig .tc) (h : ∀ w, Pipeline.arrRef spec0 w = r → (win0 w).isOut = false) :
    U2 m c (Proc.devRef .tc r) = U1 m c (Proc.devRef .tc r) :=
  Pipeline.afterRegion_keeps (Dequant.dat (U1 m) c) (U1 m c) launch0.win.arr_inj (fun _ => rfl) r h

/-- A buffer that is no output of the low-rank region is, after it, as before it. -/
theorem U3_of (c : Dev nD) (r : Ref sig .tc) (h : ∀ w, Pipeline.arrRef spec1 w = r → (win1 w).isOut = false) :
    U3 m c (Proc.devRef .tc r) = U2 m c (Proc.devRef .tc r) :=
  Pipeline.afterRegion_keeps (Low.dat (U2 m) c) (U2 m c) launch1.win.arr_inj (fun _ => rfl) r h

/-- A buffer that is no output of the main region is, after it, as before it. -/
theorem U4_of (c : Dev nD) (r : Ref sig .tc) (h : ∀ w, Pipeline.arrRef spec2 w = r → (win2 w).isOut = false) :
    U4 m c (Proc.devRef .tc r) = U3 m c (Proc.devRef .tc r) :=
  Pipeline.afterRegion_keeps (Main.dat (U3 m) c) (U3 m c) launch2.win.arr_inj (fun _ => rfl) r h

/-- A buffer the last host stretch writes nothing into is, after it, as before it. -/
theorem U5_of (c : Dev nD) (r : Ref sig .tc) (h : r ∉ hostOps3_W) : U5 m c (Proc.devRef .tc r) = U4 m c (Proc.devRef .tc r) :=
  StableHlo.after_of_writes_sub hostOps3 _ hostOps3_writes h

/-- Neither written by a host stretch nor an output of a region. -/
def untouched (r : Ref sig .tc) : Prop :=
  r ∉ hostOps0_W ∧ (∀ w, Pipeline.arrRef spec0 w = r → (win0 w).isOut = false) ∧ (∀ w, Pipeline.arrRef spec1 w = r → (win1 w).isOut = false)
    ∧ (∀ w, Pipeline.arrRef spec2 w = r → (win2 w).isOut = false) ∧ r ∉ hostOps3_W

/-- Such a buffer ends as it began. -/
theorem U5_untouched (c : Dev nD) (r : Ref sig .tc) (h : untouched r) : U5 m c (Proc.devRef .tc r) = m ((c.tc : Thread nD τ).loc r) := by
  rw [U5_of m c r h.2.2.2.2, U4_of m c r h.2.2.2.1, U3_of m c r h.2.2.1, U2_of m c r h.2.1, U1_of m c r h.1]

theorem untouched_arg0 : untouched main_arg0 := by unfold untouched; decide
theorem untouched_arg1 : untouched main_arg1 := by unfold untouched; decide
theorem untouched_arg2 : untouched main_arg2 := by unfold untouched; decide
theorem untouched_arg3 : untouched main_arg3 := by unfold untouched; decide
theorem untouched_arg4 : untouched main_arg4 := by unfold untouched; decide
theorem untouched_arg5 : untouched main_arg5 := by unfold untouched; decide

/-- Every weakly fair execution of @main terminates, with every argument array as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
    (h.1 c main_arg0 rfl).trans (U5_untouched m c _ untouched_arg0),
    (h.1 c main_arg1 rfl).trans (U5_untouched m c _ untouched_arg1),
    (h.1 c main_arg2 rfl).trans (U5_untouched m c _ untouched_arg2),
    (h.1 c main_arg3 rfl).trans (U5_untouched m c _ untouched_arg3),
    (h.1 c main_arg4 rfl).trans (U5_untouched m c _ untouched_arg4),
    (h.1 c main_arg5 rfl).trans (U5_untouched m c _ untouched_arg5)⟩, h.2⟩) (run m ρ)

end Cert.Kernel.Run

end
-- ==== Proof.KernelIdeal.Dequant.lean ====
/-
  The region of @main that unpacks and scales the weights: its proof data from any contents of the buffers at entry, and the body's run.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Dequant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rP : Rect S256x1024 := Rect.unit (s := S256x1024) ![0, 0] S256x1024.size inb_S256x1024_S256x1024_0_0
abbrev rS : Rect S8x1024 := Rect.unit (s := S8x1024) ![0, 0] S8x1024.size inb_S8x1024_S8x1024_0_0
abbrev rW : Rect S512x1024 := Rect.unit (s := S512x1024) ![0, 0] S512x1024.size inb_S512x1024_S512x1024_0_0

/-! The body's vectors that its one store reads more than once. -/

def codes (x0 : Vec F S256x1024 .i8) (x1 : Vec F S8x1024 .f32) : IVec S256x1024 32 :=
  k0_pay2 (View.ld x0 rP)
def scale (x0 : Vec F S256x1024 .i8) (x1 : Vec F S8x1024 .f32) : FVec F S256x1024 .f32 :=
  k0_pay3 (View.ld x1 rS)
def low (x0 : Vec F S256x1024 .i8) (x1 : Vec F S8x1024 .f32) : IVec S256x1024 32 :=
  k0_pay4 (View.ld x0 rP)
def high (x0 : Vec F S256x1024 .i8) (x1 : Vec F S8x1024 .f32) : IVec S256x1024 32 :=
  k0_pay14 (codes x0 x1)

/-- What the body leaves in the output's staging buffer, from the two input blocks. -/
def out (x0 : Vec F S256x1024 .i8) (x1 : Vec F S8x1024 .f32) : Vec F S512x1024 .bf16 :=
  View.canon [⟨rW, k0_pay1 (scale x0 x1) (k0_pay13 (scale x0 x1) (low x0 x1) (k0_pay5 (View.ld x0 rP)) (k0_pay8 (low x0 x1) (k0_pay6 (View.ld x0 rP)) (k0_pay7 (View.ld x0 rP)) 2#32) (k0_pay9 (low x0 x1)) (k0_pay10 (low x0 x1)) (k0_pay11 (F := F) (low x0 x1)) (k0_pay12 (low x0 x1)) (Scalar.ofBits .f32 0xBE3D353F#32) (Scalar.ofBits .f32 0xBE91A24D#32)) (k0_pay21 (high x0 x1) (k0_pay15 (codes x0 x1)) (k0_pay19 (F := F) (high x0 x1) (k0_pay16 (codes x0 x1)) (k0_pay17 (codes x0 x1)) k0_pay18) (k0_pay20 (high x0 x1)))⟩]

/-- The one store covers the buffer. -/
theorem cover (p0 : Vec F S512x1024 .bf16) (y : S512x1024.Idx) :
    ∃ pc ∈ ([⟨rW, p0⟩] : List (View.Piece (Elt F) S512x1024 .bf16)), y ∈ pc.1.set :=
  View.cover_of_tiled [⟨rW, p0⟩] S512x1024.size (by rfl) y

set_option maxHeartbeats 1000000 in
/-- The body on whole staging memrefs: the inputs stay, the output holds `out` of them. -/
theorem sound_kernel (c : Dev nD) (E : Set ℕ) (i : grid0.Coords) (arg2 : Memref sig .tc .vmem S256x1024 .i8) (harg2 : arg2.IsWhole) (arg3 : Memref sig .tc .vmem S8x1024 .f32) (harg3 : arg3.IsWhole) (arg4 : Memref sig .tc .vmem S512x1024 .bf16) (harg4 : arg4.IsWhole)
    (x0 : Vec F S256x1024 .i8) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) Variants.none c none) E (cc0_dequant i arg2 harg2 arg3 harg3 arg4 harg4) K := by
  simp only [cc0_dequant_eq_skeleton]; unfold cc0_dequant_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover _)).trans ?_
  rfl

/-- The proof data on core `c`: the arrays as found, each input's buffer at its block after the body, the output's at `out`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, window by window. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Dequant

end
-- ==== Proof.KernelIdeal.Low.lean ====
/-
  The region `h` of @main (the low-rank product x·A): its proof data from any contents of the buffers at entry, and the body's run.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Low

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S1024x4096 := Rect.unit (s := S1024x4096) ![0, 0] S1024x4096.size inb_S1024x4096_S1024x4096_0_0
abbrev rA : Rect S4096x16 := Rect.unit (s := S4096x16) ![0, 0] S4096x16.size inb_S4096x16_S4096x16_0_0
abbrev rH : Rect S1024x16 := Rect.unit (s := S1024x16) ![0, 0] S1024x16.size inb_S1024x16_S1024x16_0_0

/-- What the body leaves in the output's staging buffer, from the two input blocks. -/
def out (x0 : Vec F S1024x4096 .bf16) (x1 : Vec F S4096x16 .bf16) : Vec F S1024x16 .bf16 :=
  View.canon [⟨rH, k1_pay1 (View.ld x0 rX) (View.ld x1 rA)⟩]

/-- The one store covers the buffer. -/
theorem cover (p0 : Vec F S1024x16 .bf16) (y : S1024x16.Idx) :
    ∃ pc ∈ ([⟨rH, p0⟩] : List (View.Piece (Elt F) S1024x16 .bf16)), y ∈ pc.1.set :=
  View.cover_of_tiled [⟨rH, p0⟩] S1024x16.size (by rfl) y

set_option maxHeartbeats 1000000 in
/-- The body on whole staging memrefs: the inputs stay, the output holds `out` of them. -/
theorem sound_kernel (c : Dev nD) (E : Set ℕ) (i : grid1.Coords) (arg1 : Memref sig .tc .vmem S1024x4096 .bf16) (harg1 : arg1.IsWhole) (arg2 : Memref sig .tc .vmem S4096x16 .bf16) (harg2 : arg2.IsWhole) (arg3 : Memref sig .tc .vmem S1024x16 .bf16) (harg3 : arg3.IsWhole)
    (x0 : Vec F S1024x4096 .bf16) (x1 : Vec F S4096x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1_h i arg1 harg1 arg2 harg2 arg3 harg3) K := by
  simp only [cc1_h_eq_skeleton]; unfold cc1_h_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data on core `c`: the arrays as found, each input's buffer at its block after the body, the output's at `out`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out (iblk V c 0 t) (iblk V c 1 t) := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, window by window. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

/-- The body obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Low

end
-- ==== Proof.KernelIdeal.Step.lean ====
/-
  The main region of @main: one grid point of its body, as functions of what the point finds, and the run of the body at any point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.VecWindow

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if`: the point is the first of its row block. -/
abbrev cond1 (i : grid2.Coords) : Prop := (Scalar.cmpi .ne (Scalar.extui (Scalar.cmpi .eq (BitVec.ofNat 32 (i 1).val) 0#32)) 0#32) = 1#1

/-- The accumulator of `dy·wᵀ` after a point. -/
def stepAcc (i : grid2.Coords) (x0 : Vec F S512x512 .bf16) (x1 : Vec F S4096x512 .bf16) (s0 : Vec F S512x4096 .f32) : Vec F S512x4096 .f32 :=
  k2_pay10 x0 (if cond1 i then k2_pay5 else s0) x1
/-- The accumulator of `dy·Bᵀ` after a point. -/
def stepGacc (i : grid2.Coords) (x0 : Vec F S512x512 .bf16) (x2 : Vec F S16x512 .bf16) (s1 : Vec F S512x16 .f32) : Vec F S512x16 .f32 :=
  k2_pay11 x0 (if cond1 i then k2_pay6 else s1) x2
/-- The output dx's buffer after a point. -/
def stepDx (i : grid2.Coords) (x0 : Vec F S512x512 .bf16) (x1 : Vec F S4096x512 .bf16) (x2 : Vec F S16x512 .bf16) (x5 : Vec F S4096x16 .bf16)
    (s0 : Vec F S512x4096 .f32) (s1 : Vec F S512x16 .f32) (d6 : Vec F S512x4096 .bf16) : Vec F S512x4096 .bf16 :=
  if k2_cond3 i = 1#1 then k2_pay3 (stepGacc i x0 x2 s1) x5 (stepAcc i x0 x1 s0) else d6
/-- The output g's buffer after a point. -/
def stepG (i : grid2.Coords) (x0 : Vec F S512x512 .bf16) (x2 : Vec F S16x512 .bf16) (s1 : Vec F S512x16 .f32) (d7 : Vec F S512x16 .bf16) : Vec F S512x16 .bf16 :=
  if k2_cond3 i = 1#1 then k2_pay2 (stepGacc i x0 x2 s1) else d7
/-- The gradient of A's buffer after a point. -/
def stepDla (i : grid2.Coords) (x0 : Vec F S512x512 .bf16) (x2 : Vec F S16x512 .bf16) (x4 : Vec F S512x4096 .bf16) (s1 : Vec F S512x16 .f32)
    (d8 : Vec F S16x4096 .f32) : Vec F S16x4096 .f32 :=
  if k2_cond3 i = 1#1 then k2_pay4 (stepGacc i x0 x2 s1) (if k2_cond2 i = 1#1 then k2_pay7 else d8) x4
  else if k2_cond2 i = 1#1 then k2_pay7 else d8
/-- The gradient of B's buffer after a point: its column block at the point's offset has the block's product added. -/
def stepDlb (i : grid2.Coords) (x0 : Vec F S512x512 .bf16) (x3 : Vec F S512x16 .bf16) (d9 : Vec F S16x14336 .f32) : Vec F S16x14336 .f32 :=
  VecWindow.put (if k2_cond2 i = 1#1 then k2_pay8 else d9) (k2_off1 i) S16x512.size
    (k2_pay1 (k2_pay9 x0) (k2_pay12 (VecWindow.window (if k2_cond2 i = 1#1 then k2_pay8 else d9) (k2_off1 i) S16x512.size (k2_off1_inb i))) x3)

set_option maxHeartbeats 4000000 in
/-- The body at any point, on whole staging memrefs and scratch: the six inputs stay, every other buffer holds its step of what it held. -/
theorem sound_kernel (c : Dev nD) (E : Set ℕ) (i : grid2.Coords) (arg2 : Memref sig .tc .vmem S512x512 .bf16) (harg2 : arg2.IsWhole) (arg3 : Memref sig .tc .vmem S4096x512 .bf16) (harg3 : arg3.IsWhole) (arg4 : Memref sig .tc .vmem S16x512 .bf16) (harg4 : arg4.IsWhole) (arg5 : Memref sig .tc .vmem S512x16 .bf16) (harg5 : arg5.IsWhole) (arg6 : Memref sig .tc .vmem S512x4096 .bf16) (harg6 : arg6.IsWhole) (arg7 : Memref sig .tc .vmem S4096x16 .bf16) (harg7 : arg7.IsWhole) (arg8 : Memref sig .tc .vmem S512x4096 .bf16) (harg8 : arg8.IsWhole) (arg9 : Memref sig .tc .vmem S512x16 .bf16) (harg9 : arg9.IsWhole) (arg10 : Memref sig .tc .vmem S16x4096 .f32) (harg10 : arg10.IsWhole) (arg11 : Memref sig .tc .vmem S16x14336 .f32) (harg11 : arg11.IsWhole) (arg12 : Memref sig .tc .vmem S512x4096 .f32) (harg12 : arg12.IsWhole) (arg13 : Memref sig .tc .vmem S512x16 .f32) (harg13 : arg13.IsWhole)
    (x0 : Vec F S512x512 .bf16) (x1 : Vec F S4096x512 .bf16) (x2 : Vec F S16x512 .bf16) (x3 : Vec F S512x16 .bf16) (x4 : Vec F S512x4096 .bf16) (x5 : Vec F S4096x16 .bf16) (d6 : Vec F S512x4096 .bf16) (d7 : Vec F S512x16 .bf16) (d8 : Vec F S16x4096 .f32) (d9 : Vec F S16x14336 .f32) (s0 : Vec F S512x4096 .f32) (s1 : Vec F S512x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d8 ∗ owns (c : Thread nD τ) arg11 fullShare d9 ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (stepDx i x0 x1 x2 x5 s0 s1 d6) ∗ owns (c : Thread nD τ) arg9 fullShare (stepG i x0 x2 s1 d7) ∗ owns (c : Thread nD τ) arg10 fullShare (stepDla i x0 x2 x4 s1 d8) ∗ owns (c : Thread nD τ) arg11 fullShare (stepDlb i x0 x3 d9) ∗ owns (c : Thread nD τ) arg12 fullShare (stepAcc i x0 x1 s0) ∗ owns (c : Thread nD τ) arg13 fullShare (stepGacc i x0 x2 s1)) -∗ K ⟨⟩))
      ⊢ wp frame (wpE (defs₀ (F := F)) Variants.none c none) E (cc2_main i arg2 harg2 arg3 harg3 arg4 harg4 arg5 harg5 arg6 harg6 arg7 harg7 arg8 harg8 arg9 harg9 arg10 harg10 arg11 harg11 arg12 harg12 arg13 harg13) K := by
  simp only [cc2_main_eq_skeleton]; unfold cc2_main_skel
  simp only [k2_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  by_cases hc1 : cond1 i <;> by_cases hc2 : k2_cond2 i = 1#1 <;> by_cases hc3 : k2_cond3 i = 1#1
  all_goals
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr
      swap; · iexact H8
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    isplitl [H9]
    · iexists _; isplitr
      swap; · iexact H9
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    isplitl [H10]
    · iexists _; isplitr
      swap; · iexact H10
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    isplitl [H11]
    · iexists _; isplitr
      swap; · iexact H11
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    isplitl [H12]
    · iexists _; isplitr
      swap; · iexact H12
      ipureintro
      try sl_unfold_run_names
      try simp only [stepDx, stepG, stepDla, stepDlb, stepAcc, stepGacc]
      try simp only [if_pos hc1]
      try simp only [if_pos hc2]
      try simp only [if_pos hc3]
      try simp only [if_neg hc1]
      try simp only [if_neg hc2]
      try simp only [if_neg hc3]
      simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]
    iexists _; isplitr
    swap; · iexact H13
    ipureintro
    try sl_unfold_run_names
    try simp only [stepDx, stepG, stepDla, stepDlb, stepAcc, stepGacc]
    try simp only [if_pos hc1]
    try simp only [if_pos hc2]
    try simp only [if_pos hc3]
    try simp only [if_neg hc1]
    try simp only [if_neg hc2]
    try simp only [if_neg hc3]
    simp only [View.writes_nil, View.read_writes_full (s := S512x4096), View.read_writes_full (s := S512x16), View.read_writes_full (s := S16x4096), View.read_writes_full (s := S16x14336), View.read_writes_cons_put (s := S16x14336) (size := S16x512.size) _ _ _ _ _ rfl, View.readAt_full (s := S512x512), View.readAt_full (s := S4096x512), View.readAt_full (s := S16x512), View.readAt_full (s := S512x16), View.readAt_full (s := S512x4096), View.readAt_full (s := S4096x16), View.readAt_full (s := S16x4096), View.readAt_full (s := S16x14336), View.readCov_full (s := S512x4096), View.readCov_full (s := S512x16), View.readCov_full (s := S16x4096), View.readCov_full (s := S16x14336), View.readAt_unit (s := S16x14336) (size := S16x512.size) _ _ _ rfl (k2_off1_inb i), Memref.IsWhole.read_unread]

end Cert.KernelIdeal.Main

end
-- ==== Proof.KernelIdeal.Main.lean ====
/-
  The main region of @main over its whole grid: what is carried from point to point, the proof data, and the body obligation.
-/
module

public import proofs.«01_k».proof.Proof.KernelIdeal.Step
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.TableIdle

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The four accumulators before point `n` -/

/-- The accumulator of `dy·wᵀ`. -/
def sAcc (c : Dev nD) : ℕ → Vec F S512x4096 .f32
  | 0 => k2_pay5
  | n + 1 => if h : n < cfg2.N then stepAcc (grid2.coords ⟨n, h⟩) (iblk V c 0 ⟨n, h⟩) (iblk V c 1 ⟨n, h⟩) (sAcc c n) else sAcc c n
/-- The accumulator of `dy·Bᵀ`. -/
def sGacc (c : Dev nD) : ℕ → Vec F S512x16 .f32
  | 0 => k2_pay6
  | n + 1 => if h : n < cfg2.N then stepGacc (grid2.coords ⟨n, h⟩) (iblk V c 0 ⟨n, h⟩) (iblk V c 2 ⟨n, h⟩) (sGacc c n) else sGacc c n
/-- The gradient of A. -/
def sDla (c : Dev nD) : ℕ → Vec F S16x4096 .f32
  | 0 => k2_pay7
  | n + 1 => if h : n < cfg2.N then stepDla (grid2.coords ⟨n, h⟩) (iblk V c 0 ⟨n, h⟩) (iblk V c 2 ⟨n, h⟩) (iblk V c 4 ⟨n, h⟩) (sGacc V c n) (sDla c n) else sDla c n
/-- The gradient of B. -/
def sDlb (c : Dev nD) : ℕ → Vec F S16x14336 .f32
  | 0 => k2_pay8
  | n + 1 => if h : n < cfg2.N then stepDlb (grid2.coords ⟨n, h⟩) (iblk V c 0 ⟨n, h⟩) (iblk V c 3 ⟨n, h⟩) (sDlb c n) else sDlb c n

theorem sAcc_succ (c : Dev nD) (t : Fin cfg2.N) : sAcc V c (t.val + 1) = stepAcc (grid2.coords t) (iblk V c 0 t) (iblk V c 1 t) (sAcc V c t.val) := dif_pos t.isLt
theorem sGacc_succ (c : Dev nD) (t : Fin cfg2.N) : sGacc V c (t.val + 1) = stepGacc (grid2.coords t) (iblk V c 0 t) (iblk V c 2 t) (sGacc V c t.val) := dif_pos t.isLt
theorem sDla_succ (c : Dev nD) (t : Fin cfg2.N) :
    sDla V c (t.val + 1) = stepDla (grid2.coords t) (iblk V c 0 t) (iblk V c 2 t) (iblk V c 4 t) (sGacc V c t.val) (sDla V c t.val) := dif_pos t.isLt
theorem sDlb_succ (c : Dev nD) (t : Fin cfg2.N) : sDlb V c (t.val + 1) = stepDlb (grid2.coords t) (iblk V c 0 t) (iblk V c 3 t) (sDlb V c t.val) := dif_pos t.isLt

/-! ## The points' conditions -/

theorem cond1_iff : ∀ t : Fin cfg2.N, cond1 (grid2.coords t) ↔ t.val % 28 = 0 := by decide +kernel
theorem cond2_iff : ∀ t : Fin cfg2.N, k2_cond2 (grid2.coords t) = 1#1 ↔ t.val = 0 := by decide +kernel
theorem cond3_iff : ∀ t : Fin cfg2.N, k2_cond3 (grid2.coords t) = 1#1 ↔ t.val % 28 = 27 := by decide +kernel
theorem idle_6 : ∀ t : Fin cfg2.N, cfg2.idle 6 (grid2.coords t) = !decide (t.val % 28 = 27) := by decide +kernel
theorem idle_7 : ∀ t : Fin cfg2.N, cfg2.idle 7 (grid2.coords t) = !decide (t.val % 28 = 27) := by decide +kernel
theorem idle_8 : ∀ t : Fin cfg2.N, cfg2.idle 8 (grid2.coords t) = !(decide (t.val = 0) || decide (t.val % 28 = 27)) := by decide +kernel

/-- Output 8's buffer holds nothing stored by the body only before the first point (and past the last). -/
theorem fresh_8 (t : Fin cfg2.N) : cfg2.fresh 8 t.val = (decide (t.val = 0) || decide (t.val = 896)) :=
  Pipeline.Cfg.fresh_tab cfg2 8 (fun n => decide (n = 0) || decide (n = 896)) rfl (by decide +kernel) t.val (Nat.le_of_lt t.isLt)

/-! ## A step from what the point finds is the next accumulator: at the first point whatever it finds -/

theorem acc_next (c : Dev nD) (t : Fin cfg2.N) (s) (h : t.val ≠ 0 → s = sAcc V c t.val) :
    stepAcc (grid2.coords t) (iblk V c 0 t) (iblk V c 1 t) s = sAcc V c (t.val + 1) := by
  rw [sAcc_succ]
  by_cases h0 : t.val = 0
  · unfold stepAcc; rw [if_pos ((cond1_iff t).mpr (by omega)), if_pos ((cond1_iff t).mpr (by omega))]
  · rw [h h0]
theorem gacc_next (c : Dev nD) (t : Fin cfg2.N) (s) (h : t.val ≠ 0 → s = sGacc V c t.val) :
    stepGacc (grid2.coords t) (iblk V c 0 t) (iblk V c 2 t) s = sGacc V c (t.val + 1) := by
  rw [sGacc_succ]
  by_cases h0 : t.val = 0
  · unfold stepGacc; rw [if_pos ((cond1_iff t).mpr (by omega)), if_pos ((cond1_iff t).mpr (by omega))]
  · rw [h h0]
theorem dla_next (c : Dev nD) (t : Fin cfg2.N) (s d) (h : t.val ≠ 0 → s = sGacc V c t.val) (hd : t.val ≠ 0 → d = sDla V c t.val) :
    stepDla (grid2.coords t) (iblk V c 0 t) (iblk V c 2 t) (iblk V c 4 t) s d = sDla V c (t.val + 1) := by
  rw [sDla_succ]; unfold stepDla
  rw [gacc_next V c t s h, ← sGacc_succ V c t]
  by_cases h0 : t.val = 0
  · rw [if_pos ((cond2_iff t).mpr h0), if_pos ((cond2_iff t).mpr h0)]
  · rw [hd h0]
theorem dlb_next (c : Dev nD) (t : Fin cfg2.N) (d) (hd : t.val ≠ 0 → d = sDlb V c t.val) :
    stepDlb (grid2.coords t) (iblk V c 0 t) (iblk V c 3 t) d = sDlb V c (t.val + 1) := by
  rw [sDlb_succ]
  by_cases h0 : t.val = 0
  · unfold stepDlb; rw [if_pos ((cond2_iff t).mpr h0), if_pos ((cond2_iff t).mpr h0)]
  · rw [hd h0]

/-! ## The region's invariant -/

abbrev sc0 : Memref sig .tc .vmem S512x4096 .f32 := Memref.whole cc2_scratch0
abbrev sc1 : Memref sig .tc .vmem S512x16 .f32 := Memref.whole cc2_scratch1

/-- The other regions' staging buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before point `n`: the two scratch accumulators (at anything before the first point), the other regions' staging buffers, and
    the generator register at some state. -/
def Phi (c : Dev nD) (n : ℕ) : sProp 𝕄 :=
  iprop((∃ s0, ∃ s1, ⌜(n ≠ 0 → s0 = sAcc V c n) ∧ (n ≠ 0 → s1 = sGacc V c n)⌝ ∗ owns (c : Thread nD τ) sc0 fullShare s0 ∗ owns (c : Thread nD τ) sc1 fullShare s1)
    ∗ others c ∗ (∃ r, prngReg c r))

theorem Phi_in (c : Dev nD) : iprop(Pipeline.scopedRest (Ix := Unit) (Name := ℕ) (U := UR sig nD τ) (Lvl := ℕ) (Val := Elt F) spec2 c ∗ (∃ r, prngReg c r)) ⊢ Phi V c 0 := by
  rw [scopedRest2_eq]; unfold Phi others
  simp only [sc0, sc1, owns_whole]
  iintro ⟨⟨Q0, Q1, Q2, Q3, Q4, Q5, Q6, Q7, Q8, Q9, Q10, ⟨%s0, S0⟩, ⟨%s1, S1⟩⟩, Hp⟩
  isplitl [S0 S1]
  · iexists s0, s1
    isplitr
    · ipureintro; exact ⟨fun h => absurd rfl h, fun h => absurd rfl h⟩
    isplitl [S0]; · iexact S0
    iexact S1
  isplitr [Hp]
  · iframe
  iexact Hp

theorem Phi_out (c : Dev nD) (n : ℕ) : Phi V c n ⊢ iprop(Pipeline.scopedRest (Ix := Unit) (Name := ℕ) (U := UR sig nD τ) (Lvl := ℕ) (Val := Elt F) spec2 c ∗ (∃ r, prngReg c r)) := by
  rw [scopedRest2_eq]; unfold Phi others
  simp only [sc0, sc1, owns_whole]
  iintro ⟨⟨%s0, %s1, -, S0, S1⟩, ⟨Q0, Q1, Q2, Q3, Q4, Q5, Q6, Q7, Q8, Q9, Q10⟩, Hp⟩
  isplitr [Hp]
  · iframe
    isplitl [S0]
    · iexists s0; iexact S0
    iexists s1; iexact S1
  iexact Hp

/-! ## The proof data -/

/-- The proof data on core `c`: the arrays as found; each input's buffer at its block after the body, the outputs' as accumulated. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k2_pay3 (sGacc V c (t.val + 1)) (iblk V c 5 t) (sAcc V c (t.val + 1))
    | ⟨7, _⟩ => k2_pay2 (sGacc V c (t.val + 1))
    | ⟨8, _⟩ => sDla V c (t.val + 1)
    | ⟨9, _⟩ => sDlb V c (t.val + 1)
  Φ t := Phi V c t.val
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = k2_pay3 (sGacc V c (t.val + 1)) (iblk V c 5 t) (sAcc V c (t.val + 1)) := by dsimp only [dat]
theorem after_7 (c : Dev nD) (t : Fin cfg2.N) : (dat V c).after 7 t = k2_pay2 (sGacc V c (t.val + 1)) := by dsimp only [dat]
theorem after_8 (c : Dev nD) (t : Fin cfg2.N) : (dat V c).after 8 t = sDla V c (t.val + 1) := by dsimp only [dat]
theorem after_9 (c : Dev nD) (t : Fin cfg2.N) : (dat V c).after 9 t = sDlb V c (t.val + 1) := by dsimp only [dat]

/-- Each input's current staging buffer holds its block at every point, fetched there or not. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Output 8's contents carry through the points that leave it idle. -/
theorem carry_8 (c : Dev nD) : ∀ (t : Fin cfg2.N) (_ : t.val ≠ 0), cfg2.idle 8 (grid2.coords t) = true → cfg2.fresh 8 t.val = false →
    (dat V c).after 8 t = (dat V c).after 8 ⟨t.val - 1, by omega⟩ := by
  intro t h0 hi _
  rw [after_8, after_8, sDla_succ]
  have hi := (idle_8 t).symm.trans hi
  simp only [Bool.not_eq_true', Bool.or_eq_false_iff, decide_eq_false_iff_not] at hi
  unfold stepDla
  rw [if_neg (fun h => hi.2 ((cond3_iff t).mp h)), if_neg (fun h => h0 ((cond2_iff t).mp h))]
  dsimp only
  rw [Nat.sub_add_cancel (Nat.one_le_iff_ne_zero.mpr h0)]
theorem before_8 (c : Dev nD) (t : Fin cfg2.N) (h0 : t.val ≠ 0) (d) : (dat V c).before 8 t d = sDla V c t.val := by
  have hN : t.val < 896 := lt_of_lt_of_eq t.isLt (show cfg2.N = 896 from N_2)
  rw [Dat.before_out_traj _ 8 rfl (fun _ _ => rfl) (carry_8 V c) t.val t rfl d,
    if_neg (by rw [fresh_8 t, decide_eq_false h0, decide_eq_false (by omega)]; exact Bool.false_ne_true)]
  rw [after_8]; dsimp only
  rw [Nat.sub_add_cancel (Nat.one_le_iff_ne_zero.mpr h0)]
/-- Output 9's buffer holds what the point before left. -/
theorem before_9 (c : Dev nD) (t : Fin cfg2.N) (h0 : t.val ≠ 0) (d) : (dat V c).before 9 t d = sDlb V c t.val := by
  have hN : t.val < 896 := lt_of_lt_of_eq t.isLt (show cfg2.N = 896 from N_2)
  rw [Dat.before_out_kept _ 9 rfl t h0 (Bool.eq_false_iff.mpr fun h => by have := (flush2_9 _).mp h; dsimp only at this; omega)
    (fun _ => rfl) (fun _ _ => rfl), after_9]
  dsimp only
  rw [Nat.sub_add_cancel (Nat.one_le_iff_ne_zero.mpr h0)]

/-! ## The body obligation -/

/-- What the body is called with at point `t`, window by window. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d)))

/-- What it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 4000000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = Phi V c (t.val + 1) from rfl, show (dat V c).Φ t.castSucc = Phi V c t.val from rfl,
    show (dat V c).owesAt () t.succ = (dat V c).owesAt () t.castSucc from rfl]
  unfold Phi
  iintro ⟨⟨⟨%s0, %s1, %hs, S0, S1⟩, Hoth, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid2.coords t) _ _ _ _ _ _ _ _ _ _ _ _ _ _ _ _ _ _ _ _ sc0 _ sc1 _ (iblk V c 0 t) (iblk V c 1 t) (iblk V c 2 t) (iblk V c 3 t) (iblk V c 4 t) (iblk V c 5 t) ((dat V c).before 6 t d6) ((dat V c).before 7 t d7) ((dat V c).before 8 t d8) ((dat V c).before 9 t d9) s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  have e6 : stepDx (grid2.coords t) (iblk V c 0 t) (iblk V c 1 t) (iblk V c 2 t) (iblk V c 5 t) s0 s1 ((dat V c).before 6 t d6)
      = if k2_cond3 (grid2.coords t) = 1#1 then (dat V c).after 6 t else (dat V c).before 6 t d6 := by
    unfold stepDx; rw [acc_next V c t s0 hs.1, gacc_next V c t s1 hs.2, after_6]
  have e7 : stepG (grid2.coords t) (iblk V c 0 t) (iblk V c 2 t) s1 ((dat V c).before 7 t d7)
      = if k2_cond3 (grid2.coords t) = 1#1 then (dat V c).after 7 t else (dat V c).before 7 t d7 := by
    unfold stepG; rw [gacc_next V c t s1 hs.2, after_7]
  rw [acc_next V c t s0 hs.1, gacc_next V c t s1 hs.2, e6, e7,
    dla_next V c t s1 ((dat V c).before 8 t d8) hs.2 (fun h => before_8 V c t h d8),
    dlb_next V c t ((dat V c).before 9 t d9) (fun h => before_9 V c t h d9)]
  iintro ⟨H0, H1, H2, H3, H4, H5, H6, H7, H8, H9, S0, S1⟩
  isplitl [S0 S1 Hoth Hp]
  · isplitl [S0 S1]
    · iexists _, _
      isplitr
      · ipureintro; exact ⟨fun _ => rfl, fun _ => rfl⟩
      isplitl [S0]; · iexact S0
      iexact S1
    isplitl [Hoth]; · iexact Hoth
    iexact Hp
  isplitl [Ho]; · iexact Ho
  isplitl [H0]; · rw [← after_0]; iexact H0
  isplitl [H1]; · rw [← after_1]; iexact H1
  isplitl [H2]; · rw [← after_2]; iexact H2
  isplitl [H3]; · rw [← after_3]; iexact H3
  isplitl [H4]; · rw [← after_4]; iexact H4
  isplitl [H5]; · rw [← after_5]; iexact H5
  isplitl [H6]
  · by_cases h : t.val % 28 = 27
    · rw [if_pos ((cond3_iff t).mpr h)]
      unfold Dat.leavesExact; rw [show cfg2.idle 6 (cfg2.grid.coords t) = false from (idle_6 t).trans (by rw [decide_eq_true h]; rfl)]
      iexact H6
    · rw [if_neg (fun h' => h ((cond3_iff t).mp h'))]
      rw [Dat.leavesExact_idle (dat V c) 6 t ((idle_6 t).trans (by rw [decide_eq_false h]; rfl)) (Bool.eq_false_iff.mpr fun h' => h ((flush2_6 t).mp h'))]
      iexists _; iexact H6
  isplitl [H7]
  · by_cases h : t.val % 28 = 27
    · rw [if_pos ((cond3_iff t).mpr h)]
      unfold Dat.leavesExact; rw [show cfg2.idle 7 (cfg2.grid.coords t) = false from (idle_7 t).trans (by rw [decide_eq_true h]; rfl)]
      iexact H7
    · rw [if_neg (fun h' => h ((cond3_iff t).mp h'))]
      rw [Dat.leavesExact_idle (dat V c) 7 t ((idle_7 t).trans (by rw [decide_eq_false h]; rfl)) (Bool.eq_false_iff.mpr fun h' => h ((flush2_7 t).mp h'))]
      iexists _; iexact H7
  isplitl [H8]
  · by_cases h : t.val = 0 ∨ t.val % 28 = 27
    · unfold Dat.leavesExact; rw [show cfg2.idle 8 (cfg2.grid.coords t) = false from (idle_8 t).trans (by rcases h with h | h <;> simp [h])]
      rw [← after_8]; iexact H8
    · have hN : t.val < 896 := lt_of_lt_of_eq t.isLt (show cfg2.N = 896 from N_2)
      rw [Dat.leavesExact_idle (dat V c) 8 t ((idle_8 t).trans (by simpa using h)) (Bool.eq_false_iff.mpr fun h' => by have := (flush2_8 t).mp h'; omega)]
      iexists d8
      rw [before_8 V c t (by omega) d8, show sDla V c (t.val + 1) = sDla V c t.val from by
        rw [sDla_succ]; unfold stepDla
        rw [if_neg (fun h' => h (.inr ((cond3_iff t).mp h'))), if_neg (fun h' => h (.inl ((cond2_iff t).mp h')))]]
      iexact H8
  rw [← after_9]; iexact H9

/-- The body table's row at point `t`'s slots is the body. -/
theorem defs₀_row (t : Fin cfg2.N) : defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.Main

end
-- ==== Proof.KernelIdeal.Run.lean ====
/-
  The whole of @main, run: its three regions and two host stretches, from any memory with zero counters. Every final state holds each
  unscoped buffer at the contents the last valuation gives it, and every semaphore counter at zero.
-/
module

public import proofs.«01_k».proof.Proof.KernelIdeal.Dequant
public import proofs.«01_k».proof.Proof.KernelIdeal.Low
public import proofs.«01_k».proof.Proof.KernelIdeal.Main
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- After the first host stretch, as the unpacking region finds them. -/
def U1 (c : Dev nD) : Valuation τ sig (Elt F) := StableHlo.after hostOps0 (V0 m c)
/-- After the unpacking region, as the low-rank region finds them. -/
def U2 (c : Dev nD) : Valuation τ sig (Elt F) := Pipeline.afterRegion (Dequant.dat (U1 m) c) (U1 m c)
/-- After the low-rank region, as the main region finds them. -/
def U3 (c : Dev nD) : Valuation τ sig (Elt F) := Pipeline.afterRegion (Low.dat (U2 m) c) (U2 m c)
/-- After the main region. -/
def U4 (c : Dev nD) : Valuation τ sig (Elt F) := Pipeline.afterRegion (Main.dat (U3 m) c) (U3 m c)
/-- After the last host stretch. -/
def U5 (c : Dev nD) : Valuation τ sig (Elt F) := StableHlo.after hostOps3 (U4 m c)

/-! ## The regions' records -/

/-- The three regions' proof data. -/
def pdats : (p : Fin 3) → (c : Dev nD) → Dat τ (Elt F) Unit ℕ (UR sig nD τ) ℕ (cfgs p) c
  | 0 => Dequant.dat (U1 m)
  | 1 => Low.dat (U2 m)
  | 2 => Main.dat (U3 m)

/-- Every TensorCore counter has the one level name, no other has any. -/
def Lv (g : GSem nD τ sig) : Finset Unit := if g.1.2 = .tc then {()} else ∅
/-- The one level is 0. -/
def lv (_ : GSem nD τ sig) (_ : Unit) : ℕ := 0
theorem Lv_off (g : GSem nD τ sig) (h : g.1.2 ≠ .tc) : Lv g = ∅ := if_neg h
theorem cut (p : Fin 3) : Pipeline.LevelCut (pcfgs (F := F)) adm () Lv lv p (fun _ : Dev nD => 0) (fun _ => 0) where
  hι c w s := by simp [Lv]
  hιb c w s := le_refl _
  hD c g i h := absurd h (by simp)

/-- What rides beside the buffers: nothing owed, and the generator register. -/
abbrev side (c : Dev nD) : sProp 𝕄 := iprop((∃ Wd, owes (c : Thread nD τ) (0 : CellTallies nD τ sig Unit) Wd) ∗ (∃ r, prngReg c r) ∗ BI.emp)

abbrev reg (p : Fin 3) := RegionSeg (pcfgs (F := F)) adm (pdats m) () defs₀ Variants.none Lv lv p

def reg0 : reg m 0 :=
  RegionSeg.ofHeldIn (pcfgs (F := F)) adm (pdats m) () defs₀ Variants.none Lv lv 0 (fun _ => 0) (Pipeline.ucRefs τ sig)
    (fun c => iprop(∃ r, prngReg c r)) (fun c => iprop(∃ r, prngReg c r)) launch0.toP rfl
    (fun c => (Dequant.body_obligation (U1 m) c).loose) (fun _ _ => rfl) (fun _ => rfl) (fun c w => Dat.share_full (Dequant.dat (U1 m) c) (fun _ => rfl) w)
    (fun c => .rfl) (fun c => .rfl) (fun _ => 0) (cut 0) (fun _ => BI.emp) (U1 m) (fun c w => rfl)

def reg1 : reg m 1 :=
  RegionSeg.ofHeldIn (pcfgs (F := F)) adm (pdats m) () defs₀ Variants.none Lv lv 1 (fun _ => 0) (Pipeline.ucRefs τ sig)
    (fun c => iprop(∃ r, prngReg c r)) (fun c => iprop(∃ r, prngReg c r)) launch1.toP rfl
    (fun c => (Low.body_obligation (U2 m) c).loose) (fun _ _ => rfl) (fun _ => rfl) (fun c w => Dat.share_full (Low.dat (U2 m) c) (fun _ => rfl) w)
    (fun c => .rfl) (fun c => .rfl) (fun _ => 0) (cut 1) (fun _ => BI.emp) (U2 m) (fun c w => rfl)

def reg2 : reg m 2 :=
  RegionSeg.ofHeldIn (pcfgs (F := F)) adm (pdats m) () defs₀ Variants.none Lv lv 2 (fun _ => 0) (Pipeline.ucRefs τ sig)
    (fun c => iprop(∃ r, prngReg c r)) (fun c => iprop(∃ r, prngReg c r)) launch2.toP rfl
    (fun c => (Main.body_obligation (U3 m) c).loose) (fun _ _ => rfl) (fun _ => rfl) (fun c w => Dat.share_full (Main.dat (U3 m) c) (fun _ => rfl) w)
    (fun c => Main.Phi_in (U3 m) c) (fun c => Main.Phi_out (U3 m) c _) (fun _ => 0) (cut 2) (fun _ => BI.emp) (U3 m) (fun c w => rfl)

/-! ## Each region's entry and exit -/

theorem U2_eq (c : Dev nD) : U2 m c = Pipeline.afterRegion (pdats m 0 c) (U1 m c) := by with_unfolding_all rfl
theorem U3_eq (c : Dev nD) : U3 m c = Pipeline.afterRegion (pdats m 1 c) (U2 m c) := by with_unfolding_all rfl
theorem U4_eq (c : Dev nD) : U4 m c = Pipeline.afterRegion (pdats m 2 c) (U3 m c) := by with_unfolding_all rfl
theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)
theorem sub2 : Pipeline.arrRefs (τ := τ) (pcfgs (F := F) 2).spec ⊆ Pipeline.ucRefs τ sig := Pipeline.arrRefs_sub_ucRefs spec2 (by decide)
theorem pre0 (c : Dev nD) : iprop(StableHlo.held (c : Thread nD τ) (Pipeline.ucRefs τ sig) (U1 m c) ∗ side c) ⊢ (reg0 m).pre c := by
  unfold reg0; exact RegionSeg.ofHeldIn_pre (D := fun _ => 0) (S := Pipeline.ucRefs τ sig) (X := fun c => iprop(∃ r, prngReg c r)) (Y := fun c => iprop(∃ r, prngReg c r)) (R := fun _ => BI.emp) (W := U1 m) sub0 c
theorem post0 (c : Dev nD) : (reg0 m).post c ⊢ iprop(StableHlo.held (c : Thread nD τ) (Pipeline.ucRefs τ sig) (U2 m c) ∗ side c) := by
  rw [U2_eq]; unfold reg0; exact RegionSeg.ofHeldIn_post sub0 c
theorem pre1 (c : Dev nD) : iprop(StableHlo.held (c : Thread nD τ) (Pipeline.ucRefs τ sig) (U2 m c) ∗ side c) ⊢ (reg1 m).pre c := by
  unfold reg1; exact RegionSeg.ofHeldIn_pre (D := fun _ => 0) (S := Pipeline.ucRefs τ sig) (X := fun c => iprop(∃ r, prngReg c r)) (Y := fun c => iprop(∃ r, prngReg c r)) (R := fun _ => BI.emp) (W := U2 m) sub1 c
theorem post1 (c : Dev nD) : (reg1 m).post c ⊢ iprop(StableHlo.held (c : Thread nD τ) (Pipeline.ucRefs τ sig) (U3 m c) ∗ side c) := by
  rw [U3_eq]; unfold reg1; exact RegionSeg.ofHeldIn_post sub1 c
theorem pre2 (c : Dev nD) : iprop(StableHlo.held (c : Thread nD τ) (Pipeline.ucRefs τ sig) (U3 m c) ∗ side c) ⊢ (reg2 m).pre c := by
  unfold reg2; exact RegionSeg.ofHeldIn_pre (D := fun _ => 0) (S := Pipeline.ucRefs τ sig) (X := fun c => iprop(∃ r, prngReg c r)) (Y := fun c => iprop(∃ r, prngReg c r)) (R := fun _ => BI.emp) (W := U3 m) sub2 c
theorem post2 (c : Dev nD) : (reg2 m).post c ⊢ iprop(StableHlo.held (c : Thread nD τ) (Pipeline.ucRefs τ sig) (U4 m c) ∗ side c) := by
  rw [U4_eq]; unfold reg2; exact RegionSeg.ofHeldIn_post sub2 c

/-- The first host stretch. -/
def host0 : HostSeg (Ix := Unit) (Name := ℕ) (U := UR sig nD τ) (Lvl := ℕ) (pcfgs (F := F)) defs₀ Variants.none Lv lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) side
/-- The last host stretch. -/
def host3 : HostSeg (Ix := Unit) (Name := ℕ) (U := UR sig nD τ) (Lvl := ℕ) (pcfgs (F := F)) defs₀ Variants.none Lv lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U4 m) side

/-- @main's items. -/
def items (_ : Dev nD) : List (Seg (pcfgs (F := F)) adm (pdats m) () defs₀ Variants.none Lv lv) :=
  [.host (host0 m), .region (reg0 m), .region (reg1 m), .region (reg2 m), .host (host3 m)]

/-! ## The run -/

/-- What the launch hands a core is the first item's thread state. -/
theorem start (c : Dev nD) : iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp)
    ⊢ (iprop(StableHlo.held (c : Thread nD τ) (Pipeline.ucRefs τ sig) (V0 m c) ∗ side c) : sProp 𝕄) := by
  rw [← Pipeline.unscopedBufs_held (Ix := Unit) (Name := ℕ) (U := UR sig nD τ) (Lvl := ℕ) c (V0 m c)]
  iintro ⟨Hb, -, Ho, -, Hp, -⟩
  isplitl [Hb]; · iexact Hb
  isplitl [Ho]; · iexists _; iexact Ho
  isplitl [Hp]; · iexists _; iexact Hp
  iempintro

set_option backward.isDefEq.respectTransparency.types false in
/-- Every weakly fair execution of @main terminates, with every unscoped buffer at `U5` and every counter at zero. -/
theorem run :
    θ_run defs (onTc (τ := τ) (main (F := F))) ⟨m, fun _ => 0, ρ⟩ (fun r =>
      (∀ c : Dev nD, ∀ b : Ref sig .tc, b.isScoped = false → r.2.mem ((c.tc : Thread nD τ).loc b) = U5 m c (Proc.devRef .tc b))
      ∧ r.2.sem = fun _ => 0) := by
  refine Pipeline.θ_run_regions_kit_dev_sems (pcfgs (F := F)) adm (pdats m) () cellOf_inj emb₁ defs₀ Variants.none Lv lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0) Lv_off
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ side c))
    (Tₙ := fun c => StableHlo.held (c : Thread nD τ) (Pipeline.ucRefs τ sig) (U5 m c))
    (hch := fun c => ⟨.rfl, pre0 m c, (post0 m c).trans (pre1 m c), (post1 m c).trans (pre2 m c), post2 m c, sep_mono .rfl (by iintro ⟨H, -⟩; iexact H)⟩)
    (hinit := ?_) (QY := fun c s => ∀ b : Ref sig .tc, b.isScoped = false → s.mem ((c.tc : Thread nD τ).loc b) = U5 m c (Proc.devRef .tc b))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ side c) : sProp 𝕄) :=
      bigSep_mono fun c _ => start m ρ c
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (U5 m c) s') $$ [Hh HSI]
    · isplitl [Hh] <;> iassumption
    icases Hr with ⟨%h, HSI⟩
    imodintro
    isplitr
    · ipureintro
      exact fun b hb => h (Proc.devRef .tc b) (Pipeline.devRef_mem_ucRefs hb)
    · iexact HSI

end Cert.KernelIdeal.Run

end
-- ==== Proof.KernelIdeal.Keep.lean ====
/-
  What the run leaves alone: an argument array is no output of any region and written by neither host stretch, so it ends
  as it began; and every counter ends at zero.
-/
module

public import proofs.«01_k».proof.Proof.KernelIdeal.Run

@[expose] public section

set_option maxRecDepth 16384

noncomputable section

namespace Cert.KernelIdeal.Run

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- A buffer the first host stretch writes nothing into is, after it, as launched. -/
theorem U1_of (c : Dev nD) (r : Ref sig .tc) (h : r ∉ hostOps0_W) : U1 m c (Proc.devRef .tc r) = m ((c.tc : Thread nD τ).loc r) :=
  StableHlo.after_of_writes_sub hostOps0 _ hostOps0_writes h

/-- A buffer that is no output of the unpacking region is, after it, as before it. -/
theorem U2_of (c : Dev nD) (r : Ref sig .tc) (h : ∀ w, Pipeline.arrRef spec0 w = r → (win0 w).isOut = false) :
    U2 m c (Proc.devRef .tc r) = U1 m c (Proc.devRef .tc r) :=
  Pipeline.afterRegion_keeps (Dequant.dat (U1 m) c) (U1 m c) launch0.win.arr_inj (fun _ => rfl) r h

/-- A buffer that is no output of the low-rank region is, after it, as before it. -/
theorem U3_of (c : Dev nD) (r : Ref sig .tc) (h : ∀ w, Pipeline.arrRef spec1 w = r → (win1 w).isOut = false) :
    U3 m c (Proc.devRef .tc r) = U2 m c (Proc.devRef .tc r) :=
  Pipeline.afterRegion_keeps (Low.dat (U2 m) c) (U2 m c) launch1.win.arr_inj (fun _ => rfl) r h

/-- A buffer that is no output of the main region is, after it, as before it. -/
theorem U4_of (c : Dev nD) (r : Ref sig .tc) (h : ∀ w, Pipeline.arrRef spec2 w = r → (win2 w).isOut = false) :
    U4 m c (Proc.devRef .tc r) = U3 m c (Proc.devRef .tc r) :=
  Pipeline.afterRegion_keeps (Main.dat (U3 m) c) (U3 m c) launch2.win.arr_inj (fun _ => rfl) r h

/-- A buffer the last host stretch writes nothing into is, after it, as before it. -/
theorem U5_of (c : Dev nD) (r : Ref sig .tc) (h : r ∉ hostOps3_W) : U5 m c (Proc.devRef .tc r) = U4 m c (Proc.devRef .tc r) :=
  StableHlo.after_of_writes_sub hostOps3 _ hostOps3_writes h

/-- Neither written by a host stretch nor an output of a region. -/
def untouched (r : Ref sig .tc) : Prop :=
  r ∉ hostOps0_W ∧ (∀ w, Pipeline.arrRef spec0 w = r → (win0 w).isOut = false) ∧ (∀ w, Pipeline.arrRef spec1 w = r → (win1 w).isOut = false)
    ∧ (∀ w, Pipeline.arrRef spec2 w = r → (win2 w).isOut = false) ∧ r ∉ hostOps3_W

/-- Such a buffer ends as it began. -/
theorem U5_untouched (c : Dev nD) (r : Ref sig .tc) (h : untouched r) : U5 m c (Proc.devRef .tc r) = m ((c.tc : Thread nD τ).loc r) := by
  rw [U5_of m c r h.2.2.2.2, U4_of m c r h.2.2.2.1, U3_of m c r h.2.2.1, U2_of m c r h.2.1, U1_of m c r h.1]

theorem untouched_arg0 : untouched main_arg0 := by unfold untouched; decide
theorem untouched_arg1 : untouched main_arg1 := by unfold untouched; decide
theorem untouched_arg2 : untouched main_arg2 := by unfold untouched; decide
theorem untouched_arg3 : untouched main_arg3 := by unfold untouched; decide
theorem untouched_arg4 : untouched main_arg4 := by unfold untouched; decide
theorem untouched_arg5 : untouched main_arg5 := by unfold untouched; decide

/-- Every weakly fair execution of @main terminates, with every argument array as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
    (h.1 c main_arg0 rfl).trans (U5_untouched m c _ untouched_arg0),
    (h.1 c main_arg1 rfl).trans (U5_untouched m c _ untouched_arg1),
    (h.1 c main_arg2 rfl).trans (U5_untouched m c _ untouched_arg2),
    (h.1 c main_arg3 rfl).trans (U5_untouched m c _ untouched_arg3),
    (h.1 c main_arg4 rfl).trans (U5_untouched m c _ untouched_arg4),
    (h.1 c main_arg5 rfl).trans (U5_untouched m c _ untouched_arg5)⟩, h.2⟩) (run m ρ)

end Cert.KernelIdeal.Run

end
-- ==== Proof.KernelIdeal.Target.lean ====
/-
  What the three regions compute, as plain sums over the whole arrays.
-/
module

public import proofs.«01_k».proof.Proof.Gen.KernelIdeal.Launch
public import Idealize.ShloMosaic.Lib.Pointwise

@[expose] public section

set_option maxRecDepth 16384

noncomputable section

open scoped BigOperators

namespace Cert.KernelIdeal.Target

open Cert.KernelIdeal Idealize.ShloMosaic

/-- The value of the four-bit code `v`: the sixteen values in order, picked by equality. -/
def nf4 (v : BitVec 32) : EReal :=
  Scalar.select (IntOp.cmpi .eq v 15#32) 1
    (Scalar.select (IntOp.cmpi .eq v 14#32) (Ideal.ofBits .f32 0x3F3913B3#32)
    (Scalar.select (IntOp.cmpi .eq v 13#32) (Ideal.ofBits .f32 0x3F1007AB#32)
    (Scalar.select (IntOp.cmpi .eq v 12#32) (Ideal.ofBits .f32 0x3EE1A4B8#32)
    (Scalar.select (IntOp.cmpi .eq v 11#32) (Ideal.ofBits .f32 0x3EAD033A#32)
    (Scalar.select (IntOp.cmpi .eq v 10#32) (Ideal.ofBits .f32 0x3E7C04DD#32)
    (Scalar.select (IntOp.cmpi .eq v 9#32) (Ideal.ofBits .f32 0x3E24CAE3#32)
    (Scalar.select (IntOp.cmpi .eq v 8#32) (Ideal.ofBits .f32 0x3DA2FAFF#32)
    (Scalar.select (IntOp.cmpi .eq v 7#32) 0
    (Scalar.select (IntOp.cmpi .eq v 6#32) (Ideal.ofBits .f32 0xBDBA7871#32)
    (Scalar.select (IntOp.cmpi .eq v 5#32) (Ideal.ofBits .f32 0xBE3D353F#32)
    (Scalar.select (IntOp.cmpi .eq v 4#32) (Ideal.ofBits .f32 0xBE91A24D#32)
    (Scalar.select (IntOp.cmpi .eq v 3#32) (Ideal.ofBits .f32 0xBECA32A0#32)
    (Scalar.select (IntOp.cmpi .eq v 2#32) (Ideal.ofBits .f32 0xBF066B30#32)
    (Scalar.select (IntOp.cmpi .eq v 1#32) (Ideal.ofBits .f32 0xBF3239B1#32)
    ((Ideal.ofBits .f32 0xBF800000#32))))))))))))))))

/-- The same value picked bit by bit, the highest bit first. -/
def tree (v : BitVec 32) : EReal :=
  Scalar.select (IntOp.cmpi .ne (IntOp.andi v 8#32) 0#32) (Scalar.select (IntOp.cmpi .ne (IntOp.andi v 4#32) 0#32) (Scalar.select (IntOp.cmpi .ne (IntOp.andi v 2#32) 0#32) (Scalar.select (IntOp.cmpi .ne (IntOp.andi v 1#32) 0#32) 1 (Ideal.ofBits .f32 0x3F3913B3#32)) (Scalar.select (IntOp.cmpi .ne (IntOp.andi v 1#32) 0#32) (Ideal.ofBits .f32 0x3F1007AB#32) (Ideal.ofBits .f32 0x3EE1A4B8#32))) (Scalar.select (IntOp.cmpi .ne (IntOp.andi v 2#32) 0#32) (Scalar.select (IntOp.cmpi .ne (IntOp.andi v 1#32) 0#32) (Ideal.ofBits .f32 0x3EAD033A#32) (Ideal.ofBits .f32 0x3E7C04DD#32)) (Scalar.select (IntOp.cmpi .ne (IntOp.andi v 1#32) 0#32) (Ideal.ofBits .f32 0x3E24CAE3#32) (Ideal.ofBits .f32 0x3DA2FAFF#32)))) (Scalar.select (IntOp.cmpi .ne (IntOp.andi v 4#32) 0#32) (Scalar.select (IntOp.cmpi .ne (IntOp.andi v 2#32) 0#32) (Scalar.select (IntOp.cmpi .ne (IntOp.andi v 1#32) 0#32) 0 (Ideal.ofBits .f32 0xBDBA7871#32)) (Scalar.select (IntOp.cmpi .ne (IntOp.andi v 1#32) 0#32) (Ideal.ofBits .f32 0xBE3D353F#32) (Ideal.ofBits .f32 0xBE91A24D#32))) (Scalar.select (IntOp.cmpi .ne (IntOp.andi v 2#32) 0#32) (Scalar.select (IntOp.cmpi .ne (IntOp.andi v 1#32) 0#32) (Ideal.ofBits .f32 0xBECA32A0#32) (Ideal.ofBits .f32 0xBF066B30#32)) (Scalar.select (IntOp.cmpi .ne (IntOp.andi v 1#32) 0#32) (Ideal.ofBits .f32 0xBF3239B1#32) (Ideal.ofBits .f32 0xBF800000#32))))

/-- Picking by bits and picking by equality agree on the sixteen codes. -/
theorem tree_eq (v : BitVec 32) (h : v.toNat < 16) : tree v = nf4 v := by
  obtain ⟨n, rfl⟩ : ∃ n : Fin 16, v = BitVec.ofNat 32 n :=
    ⟨⟨v.toNat, h⟩, BitVec.eq_of_toNat_eq (by simp)⟩
  fin_cases n <;> rfl

/-- The low four bits of a byte. -/
def lo (b : BitVec 8) : BitVec 32 := IntOp.andi (b.setWidth 32) 15#32

/-- The high four bits of a byte. -/
def hi (b : BitVec 8) : BitVec 32 := IntOp.shrsi .vector (b.setWidth 32) 4#32

theorem lo_lt : ∀ b : BitVec 8, (lo b).toNat < 16 := by decide +kernel
theorem hi_lt : ∀ b : BitVec 8, (hi b).toNat < 16 := by decide +kernel
theorem hi_host : ∀ b : BitVec 8, IntOp.shrsi .host (b.setWidth 32) 4#32 = hi b := by decide +kernel

/-- The value that row `d` of a column takes from the byte `b`: an even row the byte's low code, an odd row its high code. -/
def pick (d : ℕ) (b : BitVec 8) : EReal := if d % 2 = 0 then nf4 (lo b) else nf4 (hi b)

theorem pick_congr {d e : ℕ} {b b' : BitVec 8} (h : d % 2 = e % 2) (hb : b = b') : pick d b = pick e b' := by
  unfold pick; rw [h, hb]

/-- The weights: row `d` takes its code from byte row `d / 2`, and its scale from scale row `d / 64`. -/
def W (p : Vec Ideal S2048x14336 .i8) (s : FVec Ideal S64x14336 .f32) : FVec Ideal S4096x14336 .bf16 :=
  fun j => pick (j 0).val (p (ix2 ⟨(j 0).val / 2, by have : (j 0).val < 4096 := (j 0).isLt; omega⟩ (j 1)))
    * s (ix2 ⟨(j 0).val / 64, by have : (j 0).val < 4096 := (j 0).isLt; omega⟩ (j 1))

/-- `x·A`: row `i` of `x` against column `r` of `A`. -/
def H (x : FVec Ideal S16384x4096 .bf16) (a : FVec Ideal S4096x16 .bf16) : FVec Ideal S16384x16 .bf16 :=
  fun j => ∑ k : Fin 4096, x (ix2 (j 0) k) * a (ix2 k (j 1))

/-- `dy·Bᵀ`: row `i` of `dy` against row `r` of `B`. -/
def G (dy : FVec Ideal S16384x14336 .bf16) (b : FVec Ideal S16x14336 .bf16) : FVec Ideal S16384x16 .bf16 :=
  fun j => ∑ k : Fin 14336, dy (ix2 (j 0) k) * b (ix2 (j 1) k)

/-- The gradient of `x`: `dy·wᵀ + 2·(g·Aᵀ)`. -/
def DX (dy : FVec Ideal S16384x14336 .bf16) (w : FVec Ideal S4096x14336 .bf16) (g : FVec Ideal S16384x16 .bf16)
    (a : FVec Ideal S4096x16 .bf16) : FVec Ideal S16384x4096 .bf16 :=
  fun j => (∑ k : Fin 14336, dy (ix2 (j 0) k) * w (ix2 (j 1) k))
    + Ideal.ofBits .f32 0x40000000#32 * ∑ r : Fin 16, g (ix2 (j 0) r) * a (ix2 (j 1) r)

/-- The gradient of `A`, transposed: `2·(gᵀ·x)`. -/
def DLA (g : FVec Ideal S16384x16 .bf16) (x : FVec Ideal S16384x4096 .bf16) : FVec Ideal S16x4096 .f32 :=
  fun j => Ideal.ofBits .f32 0x40000000#32 * ∑ i : Fin 16384, g (ix2 i (j 0)) * x (ix2 i (j 1))

/-- The gradient of `B`: `2·(hᵀ·dy)`. -/
def DLB (h : FVec Ideal S16384x16 .bf16) (dy : FVec Ideal S16384x14336 .bf16) : FVec Ideal S16x14336 .f32 :=
  fun j => Ideal.ofBits .f32 0x40000000#32 * ∑ i : Fin 16384, h (ix2 i (j 0)) * dy (ix2 i (j 1))

end Cert.KernelIdeal.Target
-- ==== Proof.KernelIdeal.DequantPoint.lean ====
/-
  The codes' table and one block of the region `dequant`, element by element.
-/
module

public import proofs.«01_k».proof.Proof.KernelIdeal.Dequant
public import proofs.«01_k».proof.Proof.KernelIdeal.Target
public import Idealize.ShloMosaic.Lib.Pipeline.ValueKit

@[expose] public section

set_option maxRecDepth 16384

noncomputable section

open scoped BigOperators

namespace Cert.KernelIdeal.Dequant

open Cert.KernelIdeal Cert.KernelIdeal.Gen
open Idealize.ShloMosaic Idealize.ShloMosaic.TcCoe Idealize.ShloMosaic.Tactic
open Idealize.ShloMosaic.Pipeline (Dat Cfg Window)

/-- The low codes' rows of a block: table value times scale. -/
theorem lowRow (x0 : Vec Ideal S256x1024 .i8) (x1 : Vec Ideal S8x1024 .f32) (r : Fin 256) (l : Fin 1024) :
    k0_pay13 (k0_pay3 x1) (k0_pay4 x0) (k0_pay5 x0) (k0_pay8 (k0_pay4 x0) (k0_pay6 x0) (k0_pay7 x0) 2#32) (k0_pay9 (k0_pay4 x0)) (k0_pay10 (k0_pay4 x0)) (k0_pay11 (F := Ideal) (k0_pay4 x0)) (k0_pay12 (k0_pay4 x0)) (Scalar.ofBits .f32 0xBE3D353F#32) (Scalar.ofBits .f32 0xBE91A24D#32) (ix2 r l)
      = Target.nf4 (Target.lo (x0 (ix2 r l))) * x1 (ix2 ⟨r.val / 32, by omega⟩ l) := by
  rw [← Target.tree_eq _ (Target.lo_lt _)]
  pointwise [k0_pay13, k0_pay3, k0_pay4, k0_pay2, k0_pay5, k0_pay6, k0_pay7, k0_pay8, k0_pay9, k0_pay10, k0_pay11, k0_pay12, Target.tree, Target.lo]

/-- The high codes' rows of a block: table value times scale. -/
theorem highRow (x0 : Vec Ideal S256x1024 .i8) (x1 : Vec Ideal S8x1024 .f32) (r : Fin 256) (l : Fin 1024) :
    k0_pay21 (k0_pay14 (k0_pay2 x0)) (k0_pay15 (k0_pay2 x0)) (k0_pay19 (F := Ideal) (k0_pay14 (k0_pay2 x0)) (k0_pay16 (k0_pay2 x0)) (k0_pay17 (k0_pay2 x0)) k0_pay18) (k0_pay20 (k0_pay14 (k0_pay2 x0))) (ix2 r l) * k0_pay3 x1 (ix2 r l)
      = Target.nf4 (Target.hi (x0 (ix2 r l))) * x1 (ix2 ⟨r.val / 32, by omega⟩ l) := by
  rw [← Target.tree_eq _ (Target.hi_lt _)]
  pointwise [k0_pay3, k0_pay14, k0_pay2, k0_pay15, k0_pay16, k0_pay17, k0_pay18, k0_pay19, k0_pay20, k0_pay21, Target.tree, Target.hi]

/-- One block of the output, element by element. -/
theorem out_apply (x0 : Vec Ideal S256x1024 .i8) (x1 : Vec Ideal S8x1024 .f32) (r : Fin 512) (l : Fin 1024) :
    out x0 x1 (ix2 r l)
      = Target.pick r.val (x0 (ix2 ⟨r.val / 2, by omega⟩ l)) * x1 (ix2 ⟨r.val / 64, by omega⟩ l) := by
  unfold out
  frame_out
  unfold codes scale low high codes
  have e0 : View.ld x0 rP = x0 := View.ld_unit_lit _ _ (by decide)
  have e1 : View.ld x1 rS = x1 := View.ld_unit_lit _ _ (by decide)
  rw [e0, e1]
  pointwise [k0_pay1]
  unfold Target.pick
  have e : r.val / 2 / 32 = r.val / 64 := by omega
  split
  · exact (lowRow x0 x1 ⟨r.val / 2, by omega⟩ l).trans (by simp only [e])
  · exact (highRow x0 x1 ⟨r.val / 2, by omega⟩ l).trans (by simp only [e])

end Cert.KernelIdeal.Dequant
-- ==== Proof.KernelIdeal.DequantValue.lean ====
/-
  What the region `dequant` leaves in its output array: the weights, row by row.
-/
module

public import proofs.«01_k».proof.Proof.KernelIdeal.DequantPoint

@[expose] public section

set_option maxRecDepth 16384

noncomputable section

open scoped BigOperators

namespace Cert.KernelIdeal.Dequant

open Cert.KernelIdeal Cert.KernelIdeal.Gen
open Idealize.ShloMosaic Idealize.ShloMosaic.TcCoe Idealize.ShloMosaic.Tactic
open Idealize.ShloMosaic.Pipeline (Dat Cfg Window)

/-- The blocks of the region's three windows at a point lie at the same place of their grids of blocks. -/
theorem idx : ∀ t : Fin cfg0.N, win0_0.index t = win0_2.index t ∧ win0_1.index t = win0_2.index t :=
  (by decide +kernel : ∀ t : Fin grid0.N, _)

variable (V : Dev nD → Valuation τ sig (Elt Ideal))

set_option maxHeartbeats 1000000 in
/-- After the region the output array holds the weights. -/
theorem arr (c : Dev nD) :
    (dat V c).arrAt 2 cfg0.N = Target.W (V c (Proc.devRef .tc main_arg1)) (V c (Proc.devRef .tc main_arg2)) := by
  refine (dat V c).arrAt_eq_of_covers 2 _ (by decide +kernel) fun t _ y => ?_
  obtain ⟨e0, e1⟩ := idx t
  have e0' : win0_0.index t 0 = win0_2.index t 0 := congrFun e0 0
  have e0'' : win0_0.index t 1 = win0_2.index t 1 := congrFun e0 1
  have e1' : win0_1.index t 0 = win0_2.index t 0 := congrFun e1 0
  have e1'' : win0_1.index t 1 = win0_2.index t 1 := congrFun e1 1
  clear e0 e1
  blk_simp
  rw [after_2]
  idx_vars y
  rw [out_apply]
  unfold Target.W
  refine congrArg₂ (· * ·) (Target.pick_congr ?_ ?_) ?_
  · blk_simp
    omega
  · blk_simp [iblk]
    exact congrArg (V c _) (by blk_ext [e0', e0''])
  · blk_simp [iblk]
    exact congrArg (V c _) (by blk_ext [e1', e1''])

end Cert.KernelIdeal.Dequant
-- ==== Proof.KernelIdeal.LowValue.lean ====
/-
  What the region `h` leaves in its output array: the product x·A, row by row.
-/
module

public import proofs.«01_k».proof.Proof.KernelIdeal.Low
public import proofs.«01_k».proof.Proof.KernelIdeal.Target
public import Idealize.ShloMosaic.Lib.Pipeline.ValueKit

@[expose] public section

set_option maxRecDepth 16384

noncomputable section

open scoped BigOperators

namespace Cert.KernelIdeal.Low

open Cert.KernelIdeal Cert.KernelIdeal.Gen
open Idealize.ShloMosaic Idealize.ShloMosaic.TcCoe Idealize.ShloMosaic.Tactic
open Idealize.ShloMosaic.Pipeline (Dat Cfg Window)

/-- The blocks of the region's windows at point `t`: rows `1024 t …` of `x` and of the product, and all of `A`. -/
theorem idx : ∀ t : Fin cfg1.N, win1_0.index t = ![t.val, 0] ∧ win1_1.index t = ![0, 0] ∧ win1_2.index t = ![t.val, 0] :=
  (by decide +kernel : ∀ t : Fin grid1.N, _)

variable (V : Dev nD → Valuation τ sig (Elt Ideal))

/-- After the region the output array holds `x·A`. -/
theorem arr (c : Dev nD) :
    (dat V c).arrAt 2 cfg1.N = Target.H (V c (Proc.devRef .tc main_v0)) (V c (Proc.devRef .tc main_arg3)) := by
  refine (dat V c).arrAt_eq_of_covers 2 _ (by decide +kernel) fun t _ y => ?_
  obtain ⟨e0, e1, e2⟩ := idx t
  blk_simp
  rw [after_2]
  frame_out
  idx_vars y
  pointwise [k1_pay1, Target.H]
  blk_point [iblk, V, e0, e1, e2]
  · exact congrArg (V c _) (by blk_ext [e0, e2])
  · exact congrArg (V c _) (by blk_ext [e1, e2])

end Cert.KernelIdeal.Low
-- ==== Proof.KernelIdeal.Sums.lean ====
/-
  Sums over the extended reals: a factor two through a sum, a long sum cut into equal pieces, a matrix read at natural numbers.
-/
module

public import proofs.«01_k».proof.Proof.KernelIdeal.Target
public import Idealize.ShloMosaic.Lib.Pipeline.ValueKit

@[expose] public section

set_option maxRecDepth 16384

noncomputable section

open scoped BigOperators

namespace Cert.KernelIdeal.Sums

open Idealize.ShloMosaic Finset

/-- The factor two, as the programs write it. -/
abbrev two : EReal := Ideal.ofBits .f32 0x40000000#32

theorem two_eq : two = ((2 : ℝ) : EReal) := by
  simp [two, Ideal.ofBits, Ideal.ieee, -EReal.coe_mul]; norm_num

theorem two_nonneg : 0 ≤ two := by rw [two_eq]; exact_mod_cast (by norm_num : (0 : ℝ) ≤ 2)
theorem two_ne_top : two ≠ ⊤ := by rw [two_eq]; exact EReal.coe_ne_top _

/-- Two times a sum is the sum of the doubled terms, whatever the terms. -/
theorem two_mul_sum {ι : Type} (s : Finset ι) (f : ι → EReal) : two * ∑ i ∈ s, f i = ∑ i ∈ s, two * f i := by
  classical
  induction s using Finset.induction with
  | empty => simp
  | insert a s ha ih =>
    rw [sum_insert ha, sum_insert ha, EReal.left_distrib_of_nonneg_of_ne_top two_nonneg two_ne_top, ih]

/-- A sum over `N = A * B` indices, taken in `A` pieces of `B`. -/
theorem sum_pieces {A B N : ℕ} (h : A * B = N) (g : ℕ → EReal) :
    ∑ q ∈ range A, ∑ k : Fin B, g (q * B + k.val) = ∑ l : Fin N, g l.val := by
  subst h
  rw [Fin.sum_univ_eq_sum_range g, ← Finset.sum_range_range_mul_add]
  exact sum_congr rfl fun q _ => Fin.sum_univ_eq_sum_range (fun k => g (q * B + k)) B

/-- Of a grid of `A` rows and `B` columns walked row by row, the points of one column: one term per row. -/
theorem sum_column {A B q : ℕ} (hq : q < B) (T : ℕ → EReal) :
    ∑ p ∈ range (A * B), (if p % B = q then T (p / B) else 0) = ∑ a ∈ range A, T a := by
  rw [Finset.sum_range_mul_divmod A B fun a b => if b = q then T a else 0]
  refine sum_congr rfl fun a _ => ?_
  rw [sum_ite_eq' (range B) q fun _ => T a, if_pos (mem_range.mpr hq)]

/-- A matrix read at two natural numbers, zero outside. -/
def at2 {m n : ℕ} (x : (⟨2, ![m, n]⟩ : Shape).Idx → EReal) (i j : ℕ) : EReal :=
  if h : i < m ∧ j < n then x (ix2 ⟨i, h.1⟩ ⟨j, h.2⟩) else 0

theorem at2_of {m n : ℕ} (x : (⟨2, ![m, n]⟩ : Shape).Idx → EReal) {i j : ℕ} (hi : i < m) (hj : j < n) :
    at2 x i j = x (ix2 ⟨i, hi⟩ ⟨j, hj⟩) := dif_pos ⟨hi, hj⟩

theorem at2_fin {m n : ℕ} (x : (⟨2, ![m, n]⟩ : Shape).Idx → EReal) (i : Fin m) (j : Fin n) :
    at2 x i.val j.val = x (ix2 i j) := at2_of x i.isLt j.isLt

/-- Row `i` of `x` against row `j` of `y`, over the columns in pieces. -/
theorem rows_pieces {A B N m n : ℕ} (h : A * B = N) (x : (⟨2, ![m, N]⟩ : Shape).Idx → EReal) (y : (⟨2, ![n, N]⟩ : Shape).Idx → EReal)
    (i j : ℕ) (hi : i < m) (hj : j < n) :
    ∑ q ∈ range A, ∑ k : Fin B, at2 x i (q * B + k.val) * at2 y j (q * B + k.val)
      = ∑ l : Fin N, x (ix2 ⟨i, hi⟩ l) * y (ix2 ⟨j, hj⟩ l) := by
  rw [sum_pieces h fun l => at2 x i l * at2 y j l]
  refine sum_congr rfl fun l _ => ?_
  rw [at2_of x hi l.isLt, at2_of y hj l.isLt]

/-- Twice column `i` of `x` against column `j` of `y`, over the rows in pieces. -/
theorem cols_pieces {A B N m n : ℕ} (h : A * B = N) (x : (⟨2, ![N, m]⟩ : Shape).Idx → EReal) (y : (⟨2, ![N, n]⟩ : Shape).Idx → EReal)
    (i j : ℕ) (hi : i < m) (hj : j < n) :
    ∑ q ∈ range A, two * ∑ k : Fin B, at2 x (q * B + k.val) i * at2 y (q * B + k.val) j
      = two * ∑ l : Fin N, x (ix2 l ⟨i, hi⟩) * y (ix2 l ⟨j, hj⟩) := by
  rw [← two_mul_sum, sum_pieces h fun l => at2 x l i * at2 y l j]
  refine congrArg (two * ·) (sum_congr rfl fun l _ => ?_)
  rw [at2_of x l.isLt hi, at2_of y l.isLt hj]

/-- A sum over rows named by batch and place, `2048` places to each of `8` batches, is a sum over all the rows. -/
theorem sum_batches (T : Fin 8 → Fin 2048 → Fin 16384 → EReal) :
    ∑ a : Fin 8, ∑ b : Fin 2048, T a b ⟨a.val * 2048 + b.val, by omega⟩
      = ∑ x : Fin 16384, T ⟨x.val / 2048, by omega⟩ ⟨x.val % 2048, by omega⟩ x := by
  let g : ℕ → EReal := fun n =>
    if h : n < 16384 then T ⟨n / 2048, by omega⟩ ⟨n % 2048, by omega⟩ ⟨n, h⟩ else 0
  have hg : ∀ x : Fin 16384, g x.val = T ⟨x.val / 2048, by omega⟩ ⟨x.val % 2048, by omega⟩ x := fun x => dif_pos x.isLt
  rw [← sum_congr rfl fun x _ => hg x, ← sum_pieces (A := 8) (B := 2048) (N := 16384) (by decide) g,
    ← Fin.sum_univ_eq_sum_range (fun q => ∑ k : Fin 2048, g (q * 2048 + k.val)) 8]
  refine sum_congr rfl fun a _ => sum_congr rfl fun b _ => ?_
  have ha : (a.val * 2048 + b.val) / 2048 = a.val := by omega
  have hb : (a.val * 2048 + b.val) % 2048 = b.val := by omega
  have h : a.val * 2048 + b.val < 16384 := by omega
  exact ((hg ⟨_, h⟩).trans (by simp only [ha, hb])).symm

end Cert.KernelIdeal.Sums
-- ==== Proof.KernelIdeal.MainPoint.lean ====
/-
  The region `main`, element by element: where its blocks lie, and what one point adds to each accumulator.
-/
module

public import proofs.«01_k».proof.Proof.KernelIdeal.Main
public import proofs.«01_k».proof.Proof.KernelIdeal.Sums

@[expose] public section

set_option maxRecDepth 16384

noncomputable section

open scoped BigOperators

namespace Cert.KernelIdeal.Main

open Cert.KernelIdeal Cert.KernelIdeal.Gen Cert.KernelIdeal.Sums
open Idealize.ShloMosaic Idealize.ShloMosaic.TcCoe Idealize.ShloMosaic.Tactic
open Idealize.ShloMosaic.Pipeline (Dat Cfg Window)

/-! The blocks at point `t`: row block `t / 28`, column block `t % 28`. -/

theorem idx0 : ∀ t : Fin cfg2.N, win2_0.index t = ![t.val / 28, t.val % 28] := (by decide +kernel : ∀ t : Fin grid2.N, _)
theorem idx1 : ∀ t : Fin cfg2.N, win2_1.index t = ![0, t.val % 28] := (by decide +kernel : ∀ t : Fin grid2.N, _)
theorem idx2 : ∀ t : Fin cfg2.N, win2_2.index t = ![0, t.val % 28] := (by decide +kernel : ∀ t : Fin grid2.N, _)
theorem idx3 : ∀ t : Fin cfg2.N, win2_3.index t = ![t.val / 28, 0] := (by decide +kernel : ∀ t : Fin grid2.N, _)
theorem idx4 : ∀ t : Fin cfg2.N, win2_4.index t = ![t.val / 28, 0] := (by decide +kernel : ∀ t : Fin grid2.N, _)
theorem idx5 : ∀ t : Fin cfg2.N, win2_5.index t = ![0, 0] := (by decide +kernel : ∀ t : Fin grid2.N, _)
theorem idx6 : ∀ t : Fin cfg2.N, win2_6.index t = ![t.val / 28, 0] := (by decide +kernel : ∀ t : Fin grid2.N, _)
theorem idx7 : ∀ t : Fin cfg2.N, win2_7.index t = ![t.val / 28, 0] := (by decide +kernel : ∀ t : Fin grid2.N, _)
theorem idx8 : ∀ t : Fin cfg2.N, win2_8.index t = ![0, 0] := (by decide +kernel : ∀ t : Fin grid2.N, _)
theorem idx9 : ∀ t : Fin cfg2.N, win2_9.index t = ![0, 0] := (by decide +kernel : ∀ t : Fin grid2.N, _)
theorem col : ∀ t : Fin cfg2.N, (grid2.coords t 1).val = t.val % 28 := (by decide +kernel : ∀ t : Fin grid2.N, _)
theorem flush6 : ∀ t : Fin cfg2.N, (cfg2.win 6).flush t = true → t.val % 28 = 27 := by decide +kernel
theorem flush7 : ∀ t : Fin cfg2.N, (cfg2.win 7).flush t = true → t.val % 28 = 27 := by decide +kernel
theorem flush8 : ∀ t : Fin cfg2.N, (cfg2.win 8).flush t = true → t.val = 895 := by decide +kernel
theorem flush9 : ∀ t : Fin cfg2.N, (cfg2.win 9).flush t = true → t.val = 895 := by decide +kernel

/-! The payloads at an index. -/

theorem pay10_apply (x0 : Vec Ideal S512x512 .bf16) (s : Vec Ideal S512x4096 .f32) (x1 : Vec Ideal S4096x512 .bf16) (r : Fin 512) (d : Fin 4096) :
    k2_pay10 x0 s x1 (ix2 r d) = s (ix2 r d) + ∑ k : Fin 512, x0 (ix2 r k) * x1 (ix2 d k) := by
  pointwise [k2_pay10, k2_pay9]
theorem pay11_apply (x0 : Vec Ideal S512x512 .bf16) (s : Vec Ideal S512x16 .f32) (x2 : Vec Ideal S16x512 .bf16) (r : Fin 512) (d : Fin 16) :
    k2_pay11 x0 s x2 (ix2 r d) = s (ix2 r d) + ∑ k : Fin 512, x0 (ix2 r k) * x2 (ix2 d k) := by
  pointwise [k2_pay11, k2_pay9]
theorem pay1_apply (x0 : Vec Ideal S512x512 .bf16) (s : Vec Ideal S16x512 .f32) (x3 : Vec Ideal S512x16 .bf16) (r : Fin 16) (d : Fin 512) :
    k2_pay1 (k2_pay9 x0) (k2_pay12 s) x3 (ix2 r d) = s (ix2 r d) + two * ∑ k : Fin 512, x3 (ix2 k r) * x0 (ix2 k d) := by
  pointwise [k2_pay1, k2_pay9, k2_pay12]
theorem pay2_apply (s : Vec Ideal S512x16 .f32) (j : S512x16.Idx) : k2_pay2 s j = s j := by
  pointwise [k2_pay2]
theorem pay3_apply (g : Vec Ideal S512x16 .f32) (x5 : Vec Ideal S4096x16 .bf16) (s : Vec Ideal S512x4096 .f32) (r : Fin 512) (d : Fin 4096) :
    k2_pay3 g x5 s (ix2 r d) = s (ix2 r d) + two * ∑ k : Fin 16, g (ix2 r k) * x5 (ix2 d k) := by
  pointwise [k2_pay3, k2_pay2]
theorem pay4_apply (g : Vec Ideal S512x16 .f32) (s : Vec Ideal S16x4096 .f32) (x4 : Vec Ideal S512x4096 .bf16) (r : Fin 16) (d : Fin 4096) :
    k2_pay4 g s x4 (ix2 r d) = s (ix2 r d) + two * ∑ k : Fin 512, g (ix2 k r) * x4 (ix2 k d) := by
  pointwise [k2_pay4, k2_pay2]
theorem pay5_apply (j : S512x4096.Idx) : (k2_pay5 (F := Ideal)) j = 0 := by pointwise [k2_pay5]
theorem pay6_apply (j : S512x16.Idx) : (k2_pay6 (F := Ideal)) j = 0 := by pointwise [k2_pay6]
theorem pay7_apply (j : S16x4096.Idx) : (k2_pay7 (F := Ideal)) j = 0 := by pointwise [k2_pay7]
theorem pay8_apply (j : S16x14336.Idx) : (k2_pay8 (F := Ideal)) j = 0 := by pointwise [k2_pay8]

variable (V : Dev nD → Valuation τ sig (Elt Ideal))

/-! The arrays that the region reads, and its blocks of them. -/

abbrev dy (c : Dev nD) : FVec Ideal S16384x14336 .bf16 := V c (Proc.devRef .tc main_v1)
abbrev w (c : Dev nD) : FVec Ideal S4096x14336 .bf16 := V c (Proc.devRef .tc main_v2)
abbrev lb (c : Dev nD) : FVec Ideal S16x14336 .bf16 := V c (Proc.devRef .tc main_arg4)
abbrev hh (c : Dev nD) : FVec Ideal S16384x16 .bf16 := V c (Proc.devRef .tc main_v3)
abbrev xx (c : Dev nD) : FVec Ideal S16384x4096 .bf16 := V c (Proc.devRef .tc main_v0)
abbrev la (c : Dev nD) : FVec Ideal S4096x16 .bf16 := V c (Proc.devRef .tc main_arg3)

theorem lt (t : Fin cfg2.N) : t.val < 896 := t.isLt

theorem blk0 (c : Dev nD) (t : Fin cfg2.N) (r : Fin 512) (k : Fin 512) :
    iblk V c 0 t (ix2 r k) = at2 (dy V c) (t.val / 28 * 512 + r.val) (t.val % 28 * 512 + k.val) := by
  have ht := lt t
  rw [at2_of _ (by omega) (by omega)]
  blk_simp [iblk]
  exact congrArg (V c _) (by blk_ext [idx0 t])
theorem blk1 (c : Dev nD) (t : Fin cfg2.N) (r : Fin 4096) (k : Fin 512) :
    iblk V c 1 t (ix2 r k) = at2 (w V c) r.val (t.val % 28 * 512 + k.val) := by
  have ht := lt t
  rw [at2_of _ r.isLt (by omega)]
  blk_simp [iblk]
  exact congrArg (V c _) (by blk_ext [idx1 t])
theorem blk2 (c : Dev nD) (t : Fin cfg2.N) (r : Fin 16) (k : Fin 512) :
    iblk V c 2 t (ix2 r k) = at2 (lb V c) r.val (t.val % 28 * 512 + k.val) := by
  have ht := lt t
  rw [at2_of _ r.isLt (by omega)]
  blk_simp [iblk]
  exact congrArg (V c _) (by blk_ext [idx2 t])
theorem blk3 (c : Dev nD) (t : Fin cfg2.N) (r : Fin 512) (k : Fin 16) :
    iblk V c 3 t (ix2 r k) = at2 (hh V c) (t.val / 28 * 512 + r.val) k.val := by
  have ht := lt t
  rw [at2_of _ (by omega) k.isLt]
  blk_simp [iblk]
  exact congrArg (V c _) (by blk_ext [idx3 t])
theorem blk4 (c : Dev nD) (t : Fin cfg2.N) (r : Fin 512) (k : Fin 4096) :
    iblk V c 4 t (ix2 r k) = at2 (xx V c) (t.val / 28 * 512 + r.val) k.val := by
  have ht := lt t
  rw [at2_of _ (by omega) k.isLt]
  blk_simp [iblk]
  exact congrArg (V c _) (by blk_ext [idx4 t])
theorem blk5 (c : Dev nD) (t : Fin cfg2.N) (r : Fin 4096) (k : Fin 16) :
    iblk V c 5 t (ix2 r k) = la V c (ix2 r k) := by
  blk_simp [iblk]
  exact congrArg (V c _) (by blk_ext [idx5 t])

end Cert.KernelIdeal.Main
-- ==== Proof.KernelIdeal.MainAcc.lean ====
/-
  The four accumulators of the region `main` in closed form: the sums over the points walked so far.
-/
module

public import proofs.«01_k».proof.Proof.KernelIdeal.MainPoint

@[expose] public section

set_option maxRecDepth 16384

noncomputable section

open scoped BigOperators

namespace Cert.KernelIdeal.Main

open Cert.KernelIdeal Cert.KernelIdeal.Gen Cert.KernelIdeal.Sums
open Idealize.ShloMosaic Idealize.ShloMosaic.TcCoe Idealize.ShloMosaic.Tactic
open Idealize.ShloMosaic.Pipeline (Dat Cfg Window)
open Finset (range sum_range_succ)

variable (V : Dev nD → Valuation τ sig (Elt Ideal))

/-! ## The two scratch accumulators: reset at the first column block of every row block -/

theorem sAcc_step (c : Dev nD) (t : Fin cfg2.N) (r : Fin 512) (d : Fin 4096) :
    sAcc V c (t.val + 1) (ix2 r d) = (if t.val % 28 = 0 then 0 else sAcc V c t.val (ix2 r d))
      + ∑ k : Fin 512, at2 (dy V c) (t.val / 28 * 512 + r.val) (t.val % 28 * 512 + k.val) * at2 (w V c) d.val (t.val % 28 * 512 + k.val) := by
  rw [sAcc_succ, stepAcc, pay10_apply]
  congr 1
  · by_cases h : t.val % 28 = 0
    · rw [if_pos ((cond1_iff t).mpr h), if_pos h, pay5_apply]
    · rw [if_neg (mt (cond1_iff t).mp h), if_neg h]
  · exact Finset.sum_congr rfl fun k _ => by rw [blk0, blk1]

theorem sAcc_apply (c : Dev nD) (t : Fin cfg2.N) (r : Fin 512) (d : Fin 4096) :
    sAcc V c (t.val + 1) (ix2 r d) = ∑ q ∈ range (t.val % 28 + 1), ∑ k : Fin 512,
      at2 (dy V c) (t.val / 28 * 512 + r.val) (q * 512 + k.val) * at2 (w V c) d.val (q * 512 + k.val) := by
  have := Pipeline.eq_sum_of_reset_step_divmod (N := cfg2.N) (fun n _ => sAcc V c (n + 1) (ix2 r d)) 28 0
    (fun b q => ∑ k : Fin 512, at2 (dy V c) (b * 512 + r.val) (q * 512 + k.val) * at2 (w V c) d.val (q * 512 + k.val))
    (fun t h => by rw [sAcc_step, if_pos h])
    (fun t h => by rw [sAcc_step, if_neg h, Nat.sub_add_cancel (Nat.pos_of_ne_zero fun e => h (by rw [e]))]) t
  rw [zero_add] at this
  exact this

theorem sGacc_step (c : Dev nD) (t : Fin cfg2.N) (r : Fin 512) (d : Fin 16) :
    sGacc V c (t.val + 1) (ix2 r d) = (if t.val % 28 = 0 then 0 else sGacc V c t.val (ix2 r d))
      + ∑ k : Fin 512, at2 (dy V c) (t.val / 28 * 512 + r.val) (t.val % 28 * 512 + k.val) * at2 (lb V c) d.val (t.val % 28 * 512 + k.val) := by
  rw [sGacc_succ, stepGacc, pay11_apply]
  congr 1
  · by_cases h : t.val % 28 = 0
    · rw [if_pos ((cond1_iff t).mpr h), if_pos h, pay6_apply]
    · rw [if_neg (mt (cond1_iff t).mp h), if_neg h]
  · exact Finset.sum_congr rfl fun k _ => by rw [blk0, blk2]

theorem sGacc_apply (c : Dev nD) (t : Fin cfg2.N) (r : Fin 512) (d : Fin 16) :
    sGacc V c (t.val + 1) (ix2 r d) = ∑ q ∈ range (t.val % 28 + 1), ∑ k : Fin 512,
      at2 (dy V c) (t.val / 28 * 512 + r.val) (q * 512 + k.val) * at2 (lb V c) d.val (q * 512 + k.val) := by
  have := Pipeline.eq_sum_of_reset_step_divmod (N := cfg2.N) (fun n _ => sGacc V c (n + 1) (ix2 r d)) 28 0
    (fun b q => ∑ k : Fin 512, at2 (dy V c) (b * 512 + r.val) (q * 512 + k.val) * at2 (lb V c) d.val (q * 512 + k.val))
    (fun t h => by rw [sGacc_step, if_pos h])
    (fun t h => by rw [sGacc_step, if_neg h, Nat.sub_add_cancel (Nat.pos_of_ne_zero fun e => h (by rw [e]))]) t
  rw [zero_add] at this
  exact this

/-- At the last column block the accumulator of `dy·wᵀ` holds the whole product's rows. -/
theorem sAcc_last (c : Dev nD) (t : Fin cfg2.N) (h : t.val % 28 = 27) (r : Fin 512) (d : Fin 4096) :
    sAcc V c (t.val + 1) (ix2 r d)
      = ∑ k : Fin 14336, dy V c (ix2 ⟨t.val / 28 * 512 + r.val, by have := lt t; omega⟩ k) * w V c (ix2 d k) := by
  rw [sAcc_apply, h]
  exact rows_pieces (A := 28) (B := 512) (N := 14336) (by decide) (dy V c) (w V c) _ _ (by have := lt t; omega) d.isLt

/-- At the last column block the accumulator of `dy·Bᵀ` holds the rows of `g`. -/
theorem sGacc_last (c : Dev nD) (t : Fin cfg2.N) (h : t.val % 28 = 27) (r : Fin 512) (d : Fin 16) :
    sGacc V c (t.val + 1) (ix2 r d) = at2 (Target.G (dy V c) (lb V c)) (t.val / 28 * 512 + r.val) d.val := by
  have hb : t.val / 28 * 512 + r.val < 16384 := by have := lt t; omega
  rw [sGacc_apply, h, at2_of _ hb d.isLt]
  exact rows_pieces (A := 28) (B := 512) (N := 14336) (by decide) (dy V c) (lb V c) _ _ hb d.isLt

/-! ## The two output accumulators: carried from the first point to the last -/

theorem sDla_step (c : Dev nD) (t : Fin cfg2.N) (a : Fin 16) (d : Fin 4096) :
    sDla V c (t.val + 1) (ix2 a d) = sDla V c t.val (ix2 a d)
      + if t.val % 28 = 27 then two * ∑ k : Fin 512, at2 (Target.G (dy V c) (lb V c)) (t.val / 28 * 512 + k.val) a.val * at2 (xx V c) (t.val / 28 * 512 + k.val) d.val else 0 := by
  have e : (if k2_cond2 (grid2.coords t) = 1#1 then k2_pay7 else sDla V c t.val) = sDla V c t.val := by
    split
    · rename_i h
      rw [(cond2_iff t).mp h]; rfl
    · rfl
  rw [sDla_succ, stepDla, e]
  by_cases h : t.val % 28 = 27
  · rw [if_pos ((cond3_iff t).mpr h), if_pos h, pay4_apply, ← sGacc_succ]
    refine congrArg (_ + two * ·) (Finset.sum_congr rfl fun k _ => ?_)
    rw [sGacc_last V c t h, blk4]
  · rw [if_neg (mt (cond3_iff t).mp h), if_neg h, add_zero]

theorem sDla_apply (c : Dev nD) (a : Fin 16) (d : Fin 4096) : ∀ n : ℕ, n ≤ 896 →
    sDla V c n (ix2 a d) = ∑ p ∈ range n, if p % 28 = 27 then two * ∑ k : Fin 512, at2 (Target.G (dy V c) (lb V c)) (p / 28 * 512 + k.val) a.val * at2 (xx V c) (p / 28 * 512 + k.val) d.val else 0
  | 0, _ => by rw [Finset.range_zero, Finset.sum_empty]; exact pay7_apply _
  | n + 1, hn => by
    rw [sum_range_succ, ← sDla_apply c a d n (by omega)]
    exact sDla_step V c ⟨n, hn⟩ a d

/-- After the last point the gradient of `A`'s buffer holds it whole. -/
theorem sDla_last (c : Dev nD) (a : Fin 16) (d : Fin 4096) :
    sDla V c 896 (ix2 a d) = Target.DLA (Target.G (dy V c) (lb V c)) (xx V c) (ix2 a d) := by
  rw [sDla_apply V c a d 896 le_rfl]
  refine (sum_column (A := 32) (B := 28) (by decide) fun b => two * ∑ k : Fin 512, at2 (Target.G (dy V c) (lb V c)) (b * 512 + k.val) a.val * at2 (xx V c) (b * 512 + k.val) d.val).trans ?_
  exact cols_pieces (A := 32) (B := 512) (N := 16384) (by decide) _ _ _ _ a.isLt d.isLt

/-- A column window written back into an array, read at an index: inside the window the written value, outside the array's. -/
theorem put_apply (x : S16x14336.Idx → EReal) (i : grid2.Coords) (v : S16x512.Idx → EReal) (a : Fin 16) (j : Fin 14336) :
    VecWindow.put (s := S16x14336) x (k2_off1 i) S16x512.size v (ix2 a j)
      = if h : 512 * (i 1).val ≤ j.val ∧ j.val < 512 * (i 1).val + 512 then v (ix2 a ⟨j.val - 512 * (i 1).val, by omega⟩) else x (ix2 a j) := by
  by_cases h : 512 * (i 1).val ≤ j.val ∧ j.val < 512 * (i 1).val + 512
  · rw [dif_pos h]
    have h' : ∀ b : Fin S16x14336.rank, k2_off1 i b ≤ (ix2 a j b).val ∧ (ix2 a j b).val < k2_off1 i b + S16x512.size b := by
      rw [k2_off1_eq]
      intro b
      match b with
      | ⟨0, _⟩ => exact ⟨Nat.zero_le _, by have := a.isLt; show a.val < 0 + 16; omega⟩
      | ⟨1, _⟩ => exact h
    refine (dif_pos h').trans (congrArg v ?_)
    funext b
    apply Fin.ext
    match b with
    | ⟨0, _⟩ =>
      show a.val - k2_off1 i 0 = a.val
      rw [k2_off1_eq]; exact Nat.sub_zero _
    | ⟨1, _⟩ =>
      show j.val - k2_off1 i 1 = j.val - 512 * (i 1).val
      rw [k2_off1_eq]; rfl
  · rw [dif_neg h]
    refine dif_neg fun h' => h ?_
    have := h' 1
    rw [k2_off1_eq] at this
    exact this

/-- A column window of an array, read at an index. -/
theorem window_apply (x : S16x14336.Idx → EReal) (i : grid2.Coords) (a : Fin 16) (j : Fin 512) (l : Fin 14336) (hl : l.val = 512 * (i 1).val + j.val) :
    VecWindow.window (s := S16x14336) x (k2_off1 i) S16x512.size (k2_off1_inb i) (ix2 a j) = x (ix2 a l) := by
  unfold VecWindow.window
  refine congrArg x ?_
  funext b
  apply Fin.ext
  match b with
  | ⟨0, _⟩ =>
    show k2_off1 i 0 + 1 * a.val = a.val
    rw [k2_off1_eq]; show 0 + 1 * a.val = a.val; omega
  | ⟨1, _⟩ =>
    show k2_off1 i 1 + 1 * j.val = l.val
    rw [k2_off1_eq]; show 512 * (i 1).val + 1 * j.val = l.val; omega

theorem sDlb_step (c : Dev nD) (t : Fin cfg2.N) (a : Fin 16) (j : Fin 14336) :
    sDlb V c (t.val + 1) (ix2 a j) = sDlb V c t.val (ix2 a j)
      + if t.val % 28 = j.val / 512 then two * ∑ k : Fin 512, at2 (hh V c) (t.val / 28 * 512 + k.val) a.val * at2 (dy V c) (t.val / 28 * 512 + k.val) j.val else 0 := by
  have e : (if k2_cond2 (grid2.coords t) = 1#1 then k2_pay8 else sDlb V c t.val) = sDlb V c t.val := by
    split
    · rename_i h
      rw [(cond2_iff t).mp h]; rfl
    · rfl
  have hc := col t
  rw [sDlb_succ, stepDlb, e]
  refine (put_apply _ _ _ a j).trans ?_
  by_cases h : t.val % 28 = j.val / 512
  · rw [dif_pos (by omega), if_pos h, pay1_apply]
    refine congrArg₂ (· + ·) (window_apply _ _ _ _ j (by show j.val = _ + (j.val - _); omega)) (congrArg (two * ·) (Finset.sum_congr rfl fun k _ => ?_))
    rw [blk3, blk0]
    refine congrArg (fun n => at2 (hh V c) (t.val / 28 * 512 + k.val) a.val * at2 (dy V c) (t.val / 28 * 512 + k.val) n) ?_
    show t.val % 28 * 512 + (j.val - 512 * (grid2.coords t 1).val) = j.val
    omega
  · rw [dif_neg (by omega), if_neg h, add_zero]

theorem sDlb_apply (c : Dev nD) (a : Fin 16) (j : Fin 14336) : ∀ n : ℕ, n ≤ 896 →
    sDlb V c n (ix2 a j) = ∑ p ∈ range n, if p % 28 = j.val / 512 then two * ∑ k : Fin 512, at2 (hh V c) (p / 28 * 512 + k.val) a.val * at2 (dy V c) (p / 28 * 512 + k.val) j.val else 0
  | 0, _ => by rw [Finset.range_zero, Finset.sum_empty]; exact pay8_apply _
  | n + 1, hn => by
    rw [sum_range_succ, ← sDlb_apply c a j n (by omega)]
    exact sDlb_step V c ⟨n, hn⟩ a j

/-- After the last point the gradient of `B`'s buffer holds it whole. -/
theorem sDlb_last (c : Dev nD) (a : Fin 16) (j : Fin 14336) :
    sDlb V c 896 (ix2 a j) = Target.DLB (hh V c) (dy V c) (ix2 a j) := by
  rw [sDlb_apply V c a j 896 le_rfl]
  refine (sum_column (A := 32) (B := 28) (by omega) fun b => two * ∑ k : Fin 512, at2 (hh V c) (b * 512 + k.val) a.val * at2 (dy V c) (b * 512 + k.val) j.val).trans ?_
  exact cols_pieces (A := 32) (B := 512) (N := 16384) (by decide) _ _ _ _ a.isLt j.isLt

end Cert.KernelIdeal.Main
-- ==== Proof.KernelIdeal.MainValue.lean ====
/-
  What the region `main` leaves in its four output arrays.
-/
module

public import proofs.«01_k».proof.Proof.KernelIdeal.MainAcc

@[expose] public section

set_option maxRecDepth 16384

noncomputable section

open scoped BigOperators

namespace Cert.KernelIdeal.Main

open Cert.KernelIdeal Cert.KernelIdeal.Gen Cert.KernelIdeal.Sums
open Idealize.ShloMosaic Idealize.ShloMosaic.TcCoe Idealize.ShloMosaic.Tactic
open Idealize.ShloMosaic.Pipeline (Dat Cfg Window)

variable (V : Dev nD → Valuation τ sig (Elt Ideal))

/-- The gradient of `x`. -/
theorem arr6 (c : Dev nD) :
    (dat V c).arrAt 6 cfg2.N = Target.DX (dy V c) (w V c) (Target.G (dy V c) (lb V c)) (la V c) := by
  refine (dat V c).arrAt_eq_of_covers 6 _ (by decide +kernel) fun t hf y => ?_
  have h := flush6 t hf
  have ht := lt t
  blk_simp
  rw [after_6]
  idx_vars y
  have e : (win2_6.blk t).view.emb (ix2 y0 y1) = ix2 ⟨t.val / 28 * 512 + y0.val, by omega⟩ y1 := by
    blk_ext [idx6 t]
  refine (pay3_apply _ _ _ _ _).trans (Eq.trans ?_ (congrArg (Target.DX (dy V c) (w V c) (Target.G (dy V c) (lb V c)) (la V c)) e.symm))
  rw [sAcc_last V c t h]
  refine congrArg (_ + two * ·) (Finset.sum_congr rfl fun k _ => ?_)
  rw [sGacc_last V c t h, blk5, at2_of _ (by omega) k.isLt]
  rfl

/-- The low-rank product `g`. -/
theorem arr7 (c : Dev nD) :
    (dat V c).arrAt 7 cfg2.N = Target.G (dy V c) (lb V c) := by
  refine (dat V c).arrAt_eq_of_covers 7 _ (by decide +kernel) fun t hf y => ?_
  have h := flush7 t hf
  have ht := lt t
  blk_simp
  rw [after_7]
  idx_vars y
  have e : (win2_7.blk t).view.emb (ix2 y0 y1) = ix2 ⟨t.val / 28 * 512 + y0.val, by omega⟩ y1 := by
    blk_ext [idx7 t]
  refine (pay2_apply _ _).trans (Eq.trans ?_ (congrArg (Target.G (dy V c) (lb V c)) e.symm))
  rw [sGacc_last V c t h, at2_of _ (by omega) y1.isLt]

/-- The gradient of `A`, transposed. -/
theorem arr8 (c : Dev nD) :
    (dat V c).arrAt 8 cfg2.N = Target.DLA (Target.G (dy V c) (lb V c)) (xx V c) := by
  refine (dat V c).arrAt_eq_of_covers 8 _ (by decide +kernel) fun t hf y => ?_
  have h := flush8 t hf
  blk_simp
  rw [after_8, h]
  idx_vars y
  have e : (win2_8.blk t).view.emb (ix2 y0 y1) = ix2 y0 y1 := by
    blk_ext [idx8 t]
  exact (sDla_last V c y0 y1).trans (congrArg (Target.DLA (Target.G (dy V c) (lb V c)) (xx V c)) e.symm)

/-- The gradient of `B`. -/
theorem arr9 (c : Dev nD) :
    (dat V c).arrAt 9 cfg2.N = Target.DLB (hh V c) (dy V c) := by
  refine (dat V c).arrAt_eq_of_covers 9 _ (by decide +kernel) fun t hf y => ?_
  have h := flush9 t hf
  blk_simp
  rw [after_9, h]
  idx_vars y
  have e : (win2_9.blk t).view.emb (ix2 y0 y1) = ix2 y0 y1 := by
    blk_ext [idx9 t]
  exact (sDlb_last V c y0 y1).trans (congrArg (Target.DLB (hh V c) (dy V c)) e.symm)

end Cert.KernelIdeal.Main
-- ==== Proof.KernelIdeal.Final.lean ====
/-
  The five results of the kernel's run, as functions of its six arguments.
-/
module

public import proofs.«01_k».proof.Proof.KernelIdeal.Keep
public import proofs.«01_k».proof.Proof.KernelIdeal.DequantValue
public import proofs.«01_k».proof.Proof.KernelIdeal.LowValue
public import proofs.«01_k».proof.Proof.KernelIdeal.MainValue

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ)

/-! ## The arguments, `x` and `dy` as matrices -/

abbrev argX (c : Dev nD) : FVec Ideal S8x2048x4096 .bf16 := m ((c.tc : Thread nD τ).loc main_arg0)
abbrev argP (c : Dev nD) : Vec Ideal S2048x14336 .i8 := m ((c.tc : Thread nD τ).loc main_arg1)
abbrev argS (c : Dev nD) : FVec Ideal S64x14336 .f32 := m ((c.tc : Thread nD τ).loc main_arg2)
abbrev argA (c : Dev nD) : FVec Ideal S4096x16 .bf16 := m ((c.tc : Thread nD τ).loc main_arg3)
abbrev argB (c : Dev nD) : FVec Ideal S16x14336 .bf16 := m ((c.tc : Thread nD τ).loc main_arg4)
abbrev argDy (c : Dev nD) : FVec Ideal S8x2048x14336 .bf16 := m ((c.tc : Thread nD τ).loc main_arg5)
abbrev matX (c : Dev nD) : FVec Ideal S16384x4096 .bf16 := shapeCast S16384x4096 (argX m c) shapeCasts_S8x2048x4096_S16384x4096
abbrev matDy (c : Dev nD) : FVec Ideal S16384x14336 .bf16 := shapeCast S16384x14336 (argDy m c) shapeCasts_S8x2048x14336_S16384x14336

/-! ## Before the main region -/

theorem U1_v0 (c : Dev nD) : U1 m c (Proc.devRef .tc main_v0) = matX m c := by
  unfold U1
  after_results
  rfl
theorem U1_v1 (c : Dev nD) : U1 m c (Proc.devRef .tc main_v1) = matDy m c := by
  unfold U1
  after_results
  rfl

theorem U2_v2 (c : Dev nD) : U2 m c (Proc.devRef .tc main_v2) = Target.W (argP m c) (argS m c) := by
  refine (Pipeline.afterRegion_arr (Dequant.dat (U1 m) c) (U1 m c) launch0.win.arr_inj 2).trans ?_
  rw [Dequant.arr, U1_of m c main_arg1 (by decide), U1_of m c main_arg2 (by decide)]

theorem U2_v0 (c : Dev nD) : U2 m c (Proc.devRef .tc main_v0) = matX m c := by
  rw [U2_of m c main_v0 (by decide), U1_v0]
theorem U2_arg3 (c : Dev nD) : U2 m c (Proc.devRef .tc main_arg3) = argA m c := by
  rw [U2_of m c main_arg3 (by decide), U1_of m c main_arg3 (by decide)]

theorem U3_v3 (c : Dev nD) : U3 m c (Proc.devRef .tc main_v3) = Target.H (matX m c) (argA m c) := by
  refine (Pipeline.afterRegion_arr (Low.dat (U2 m) c) (U2 m c) launch1.win.arr_inj 2).trans ?_
  rw [Low.arr, U2_v0, U2_arg3]
theorem U3_v0 (c : Dev nD) : U3 m c (Proc.devRef .tc main_v0) = matX m c := by
  rw [U3_of m c main_v0 (by decide), U2_v0]
theorem U3_v1 (c : Dev nD) : U3 m c (Proc.devRef .tc main_v1) = matDy m c := by
  rw [U3_of m c main_v1 (by decide), U2_of m c main_v1 (by decide), U1_v1]
theorem U3_v2 (c : Dev nD) : U3 m c (Proc.devRef .tc main_v2) = Target.W (argP m c) (argS m c) := by
  rw [U3_of m c main_v2 (by decide), U2_v2]
theorem U3_arg3 (c : Dev nD) : U3 m c (Proc.devRef .tc main_arg3) = argA m c := by
  rw [U3_of m c main_arg3 (by decide), U2_arg3]
theorem U3_arg4 (c : Dev nD) : U3 m c (Proc.devRef .tc main_arg4) = argB m c := by
  rw [U3_of m c main_arg4 (by decide), U2_of m c main_arg4 (by decide), U1_of m c main_arg4 (by decide)]

/-! ## After the main region -/

/-- The low-rank product `dy·Bᵀ` of the arguments. -/
abbrev resG (c : Dev nD) : FVec Ideal S16384x16 .bf16 := Target.G (matDy m c) (argB m c)

theorem U4_v4_0 (c : Dev nD) : U4 m c (Proc.devRef .tc main_v4_0)
    = Target.DX (matDy m c) (Target.W (argP m c) (argS m c)) (resG m c) (argA m c) := by
  refine (Pipeline.afterRegion_arr (Main.dat (U3 m) c) (U3 m c) launch2.win.arr_inj 6).trans ?_
  rw [Main.arr6, Main.dy, Main.w, Main.lb, Main.la, U3_v1, U3_v2, U3_arg4, U3_arg3]
theorem U4_v4_1 (c : Dev nD) : U4 m c (Proc.devRef .tc main_v4_1) = resG m c := by
  refine (Pipeline.afterRegion_arr (Main.dat (U3 m) c) (U3 m c) launch2.win.arr_inj 7).trans ?_
  rw [Main.arr7, Main.dy, Main.lb, U3_v1, U3_arg4]
theorem U4_v4_2 (c : Dev nD) : U4 m c (Proc.devRef .tc main_v4_2) = Target.DLA (resG m c) (matX m c) := by
  refine (Pipeline.afterRegion_arr (Main.dat (U3 m) c) (U3 m c) launch2.win.arr_inj 8).trans ?_
  rw [Main.arr8, Main.dy, Main.lb, Main.xx, U3_v1, U3_arg4, U3_v0]
theorem U4_v4_3 (c : Dev nD) : U4 m c (Proc.devRef .tc main_v4_3) = Target.DLB (Target.H (matX m c) (argA m c)) (matDy m c) := by
  refine (Pipeline.afterRegion_arr (Main.dat (U3 m) c) (U3 m c) launch2.win.arr_inj 9).trans ?_
  rw [Main.arr9, Main.hh, Main.dy, U3_v3, U3_v1]
theorem U4_v3 (c : Dev nD) : U4 m c (Proc.devRef .tc main_v3) = Target.H (matX m c) (argA m c) := by
  rw [U4_of m c main_v3 (by decide), U3_v3]

/-! ## The five results -/

/-- The gradient of `x`. -/
theorem U5_v5 (c : Dev nD) : U5 m c (Proc.devRef .tc main_v5)
    = shapeCast S8x2048x4096 (Target.DX (matDy m c) (Target.W (argP m c) (argS m c)) (resG m c) (argA m c)) shapeCasts_S16384x4096_S8x2048x4096 := by
  rw [← U4_v4_0]
  unfold U5
  after_results
  rfl
/-- The gradient of `A`. -/
theorem U5_v6 (c : Dev nD) : U5 m c (Proc.devRef .tc main_v6)
    = transpose S4096x16 [1, 0] (Target.DLA (resG m c) (matX m c)) transposes_S16x4096_S4096x16_1_0 := by
  rw [← U4_v4_2]
  unfold U5
  after_results
/-- The gradient of `B`. -/
theorem U5_v4_3 (c : Dev nD) : U5 m c (Proc.devRef .tc main_v4_3) = Target.DLB (Target.H (matX m c) (argA m c)) (matDy m c) := by
  rw [U5_of m c main_v4_3 (by decide), U4_v4_3]
/-- The low-rank product `g`. -/
theorem U5_v7 (c : Dev nD) : U5 m c (Proc.devRef .tc main_v7) = shapeCast S8x2048x16 (resG m c) shapeCasts_S16384x16_S8x2048x16 := by
  rw [← U4_v4_1]
  unfold U5
  after_results
  rfl
/-- The low-rank product `h`. -/
theorem U5_v8 (c : Dev nD) : U5 m c (Proc.devRef .tc main_v8)
    = shapeCast S8x2048x16 (Target.H (matX m c) (argA m c)) shapeCasts_S16384x16_S8x2048x16 := by
  rw [← U4_v3]
  unfold U5
  after_results
  rfl

end Cert.KernelIdeal.Run
-- ==== Proof.Reference.Products.lean ====
/-
  The reference's products, as the plain sums that the kernel computes over `x` and `dy` as matrices.
-/
module

public import proofs.«01_k».proof.Proof.Gen.ReferenceIdeal.Run
public import proofs.«01_k».proof.Proof.KernelIdeal.Target
public import proofs.«01_k».proof.Proof.KernelIdeal.Sums
public import Idealize.ShloMosaic.Lib.Pipeline.ValueKit

@[expose] public section

set_option maxRecDepth 16384

noncomputable section

open scoped BigOperators

namespace Cert.ReferenceIdeal.Value

open Cert.ReferenceIdeal Cert.ReferenceIdeal.Gen Idealize.ShloMosaic Idealize.ShloMosaic.TcCoe Idealize.ShloMosaic.Tactic

/-- `x` as a matrix. -/
abbrev flatX (x : FVec Ideal S8x2048x4096 .bf16) : FVec Ideal Cert.KernelIdeal.S16384x4096 .bf16 :=
  shapeCast Cert.KernelIdeal.S16384x4096 x Cert.KernelIdeal.Gen.shapeCasts_S8x2048x4096_S16384x4096
/-- `dy` as a matrix. -/
abbrev flatDy (dy : FVec Ideal S8x2048x14336 .bf16) : FVec Ideal Cert.KernelIdeal.S16384x14336 .bf16 :=
  shapeCast Cert.KernelIdeal.S16384x14336 dy Cert.KernelIdeal.Gen.shapeCasts_S8x2048x14336_S16384x14336

/-- The reference's `g`. -/
abbrev refG (dy : FVec Ideal S8x2048x14336 .bf16) (b : FVec Ideal S16x14336 .bf16) : FVec Ideal S8x2048x16 .bf16 :=
  truncf .bf16 (Host.dotGeneral dot_S8x2048x14336_S16x14336_S8x2048x16_2_1_01_0_n_n none dy b) bitsLt_bf16_f32
/-- The reference's `h`. -/
abbrev refH (x : FVec Ideal S8x2048x4096 .bf16) (a : FVec Ideal S4096x16 .bf16) : FVec Ideal S8x2048x16 .bf16 :=
  truncf .bf16 (Host.dotGeneral dot_S8x2048x4096_S4096x16_S8x2048x16_2_0_01_1_n_n none x a) bitsLt_bf16_f32

/-- The reference's gradient of `B`. -/
abbrev refDLB (h : FVec Ideal S8x2048x16 .bf16) (dy : FVec Ideal S8x2048x14336 .bf16) : FVec Ideal S16x14336 .f32 :=
  mulf (broadcastInDim S16x14336 ![] bcast_S_S16x14336 (constant S_ .f32 0x40000000#32)) (Host.dotGeneral dot_S8x2048x16_S8x2048x14336_S16x14336_01_01_2_2_n_n none h dy)
/-- The reference's gradient of `A`. -/
abbrev refDLA (x : FVec Ideal S8x2048x4096 .bf16) (g : FVec Ideal S8x2048x16 .bf16) : FVec Ideal S4096x16 .f32 :=
  mulf (broadcastInDim S4096x16 ![] bcast_S_S4096x16 (constant S_ .f32 0x40000000#32)) (Host.dotGeneral dot_S8x2048x4096_S8x2048x16_S4096x16_01_01_2_2_n_n none x g)
/-- The reference's gradient of `x`, from its first summand `q`. -/
abbrev refDX (q : FVec Ideal S8x2048x4096 .f32) (g : FVec Ideal S8x2048x16 .bf16) (la : FVec Ideal S4096x16 .bf16) : FVec Ideal S8x2048x4096 .bf16 :=
  truncf .bf16 (addf q (mulf (broadcastInDim S8x2048x4096 ![] bcast_S_S8x2048x4096 (constant S_ .f32 0x40000000#32)) (Host.dotGeneral dot_S8x2048x16_S4096x16_S8x2048x4096_2_1_01_0_n_n none g la))) bitsLt_bf16_f32

/-- The reference's `g` is the matrix product `dy·Bᵀ`, its rows named by batch and place. -/
theorem refG_eq (dy : FVec Ideal S8x2048x14336 .bf16) (b : FVec Ideal S16x14336 .bf16) :
    refG dy b = shapeCast S8x2048x16 (Cert.KernelIdeal.Target.G (flatDy dy) b) Cert.KernelIdeal.Gen.shapeCasts_S16384x16_S8x2048x16 := by
  funext j
  idx_vars j
  pointwise [Cert.KernelIdeal.Target.G]

/-- The reference's `h` is the matrix product `x·A`, its rows named by batch and place. -/
theorem refH_eq (x : FVec Ideal S8x2048x4096 .bf16) (a : FVec Ideal S4096x16 .bf16) :
    refH x a = shapeCast S8x2048x16 (Cert.KernelIdeal.Target.H (flatX x) a) Cert.KernelIdeal.Gen.shapeCasts_S16384x16_S8x2048x16 := by
  funext j
  idx_vars j
  pointwise [Cert.KernelIdeal.Target.H]

/-- The gradient of `B`: the reference sums over batch and place, the kernel over the rows. -/
theorem refDLB_eq (h : FVec Ideal Cert.KernelIdeal.S16384x16 .bf16) (dy : FVec Ideal S8x2048x14336 .bf16) :
    refDLB (shapeCast S8x2048x16 h Cert.KernelIdeal.Gen.shapeCasts_S16384x16_S8x2048x16) dy
      = Cert.KernelIdeal.Target.DLB h (flatDy dy) := by
  funext j
  idx_vars j
  pointwise [Cert.KernelIdeal.Target.DLB]
  exact congrArg (Cert.KernelIdeal.Sums.two * ·) (Cert.KernelIdeal.Sums.sum_batches fun a b x => h (ix2 x j0) * dy (ix3 a b j1))

/-- The gradient of `A`: the same, with the factors in the other order and the result transposed. -/
theorem refDLA_eq (x : FVec Ideal S8x2048x4096 .bf16) (g : FVec Ideal Cert.KernelIdeal.S16384x16 .bf16) :
    refDLA x (shapeCast S8x2048x16 g Cert.KernelIdeal.Gen.shapeCasts_S16384x16_S8x2048x16)
      = transpose S4096x16 [1, 0] (Cert.KernelIdeal.Target.DLA g (flatX x)) Cert.KernelIdeal.Gen.transposes_S16x4096_S4096x16_1_0 := by
  funext j
  idx_vars j
  pointwise [Cert.KernelIdeal.Target.DLA]
  refine congrArg (Cert.KernelIdeal.Sums.two * ·) ((Cert.KernelIdeal.Sums.sum_batches fun a b i => x (ix3 a b j0) * g (ix2 i j1)).trans ?_)
  exact Finset.sum_congr rfl fun i _ => mul_comm _ _

/-! ## The gradient of `x` -/

/-- The reference's values of the codes `v`. -/
def vals (v : Vec Ideal S2048x14336 .i32) : FVec Ideal S2048x14336 .f32 :=
  select (cmpi .eq v (broadcastInDim S2048x14336 ![] bcast_S_S2048x14336 (constantI S_ 32 15#32))) (broadcastInDim S2048x14336 ![] bcast_S_S2048x14336 (constant S_ .f32 0x3F800000#32))
    (select (cmpi .eq v (broadcastInDim S2048x14336 ![] bcast_S_S2048x14336 (constantI S_ 32 14#32))) (broadcastInDim S2048x14336 ![] bcast_S_S2048x14336 (constant S_ .f32 0x3F3913B3#32))
    (select (cmpi .eq v (broadcastInDim S2048x14336 ![] bcast_S_S2048x14336 (constantI S_ 32 13#32))) (broadcastInDim S2048x14336 ![] bcast_S_S2048x14336 (constant S_ .f32 0x3F1007AB#32))
    (select (cmpi .eq v (broadcastInDim S2048x14336 ![] bcast_S_S2048x14336 (constantI S_ 32 12#32))) (broadcastInDim S2048x14336 ![] bcast_S_S2048x14336 (constant S_ .f32 0x3EE1A4B8#32))
    (select (cmpi .eq v (broadcastInDim S2048x14336 ![] bcast_S_S2048x14336 (constantI S_ 32 11#32))) (broadcastInDim S2048x14336 ![] bcast_S_S2048x14336 (constant S_ .f32 0x3EAD033A#32))
    (select (cmpi .eq v (broadcastInDim S2048x14336 ![] bcast_S_S2048x14336 (constantI S_ 32 10#32))) (broadcastInDim S2048x14336 ![] bcast_S_S2048x14336 (constant S_ .f32 0x3E7C04DD#32))
    (select (cmpi .eq v (broadcastInDim S2048x14336 ![] bcast_S_S2048x14336 (constantI S_ 32 9#32))) (broadcastInDim S2048x14336 ![] bcast_S_S2048x14336 (constant S_ .f32 0x3E24CAE3#32))
    (select (cmpi .eq v (broadcastInDim S2048x14336 ![] bcast_S_S2048x14336 (constantI S_ 32 8#32))) (broadcastInDim S2048x14336 ![] bcast_S_S2048x14336 (constant S_ .f32 0x3DA2FAFF#32))
    (select (cmpi .eq v (broadcastInDim S2048x14336 ![] bcast_S_S2048x14336 (constantI S_ 32 7#32))) (broadcastInDim S2048x14336 ![] bcast_S_S2048x14336 (constant S_ .f32 0x00000000#32))
    (select (cmpi .eq v (broadcastInDim S2048x14336 ![] bcast_S_S2048x14336 (constantI S_ 32 6#32))) (broadcastInDim S2048x14336 ![] bcast_S_S2048x14336 (constant S_ .f32 0xBDBA7871#32))
    (select (cmpi .eq v (broadcastInDim S2048x14336 ![] bcast_S_S2048x14336 (constantI S_ 32 5#32))) (broadcastInDim S2048x14336 ![] bcast_S_S2048x14336 (constant S_ .f32 0xBE3D353F#32))
    (select (cmpi .eq v (broadcastInDim S2048x14336 ![] bcast_S_S2048x14336 (constantI S_ 32 4#32))) (broadcastInDim S2048x14336 ![] bcast_S_S2048x14336 (constant S_ .f32 0xBE91A24D#32))
    (select (cmpi .eq v (broadcastInDim S2048x14336 ![] bcast_S_S2048x14336 (constantI S_ 32 3#32))) (broadcastInDim S2048x14336 ![] bcast_S_S2048x14336 (constant S_ .f32 0xBECA32A0#32))
    (select (cmpi .eq v (broadcastInDim S2048x14336 ![] bcast_S_S2048x14336 (constantI S_ 32 2#32))) (broadcastInDim S2048x14336 ![] bcast_S_S2048x14336 (constant S_ .f32 0xBF066B30#32))
    (select (cmpi .eq v (broadcastInDim S2048x14336 ![] bcast_S_S2048x14336 (constantI S_ 32 1#32))) (broadcastInDim S2048x14336 ![] bcast_S_S2048x14336 (constant S_ .f32 0xBF3239B1#32)) (broadcastInDim S2048x14336 ![] bcast_S_S2048x14336 (constant S_ .f32 0xBF800000#32))))))))))))))))

/-- The reference's weights of one half of the codes: values times scales, thirty-two rows to a scale. -/
def rows (v : Vec Ideal S2048x14336 .i32) (s : FVec Ideal S64x14336 .f32) : FVec Ideal S2048x14336 .bf16 :=
  shapeCast _ (mulf (shapeCast _ (truncf .bf16 (vals v) bitsLt_bf16_f32) shapeCasts_S2048x14336_S64x32x14336) (broadcastInDim S64x32x14336 ![0, 1, 2] bcast_S64x1x14336_S64x32x14336_0_1_2 (broadcastInDim S64x1x14336 ![0, 2] bcast_S64x14336_S64x1x14336_0_2 (truncf .bf16 s bitsLt_bf16_f32)))) shapeCasts_S64x32x14336_S2048x14336

/-- The low codes, the byte read as a 32-bit word. -/
def lows (p : Vec Ideal S2048x14336 .i8) : Vec Ideal S2048x14336 .i32 :=
  andi (extui 32 p natLt_8_32) (broadcastInDim S2048x14336 ![] bcast_S_S2048x14336 (constantI S_ 32 15#32))
/-- The high codes. -/
def highs (p : Vec Ideal S2048x14336 .i8) : Vec Ideal S2048x14336 .i32 :=
  Host.shrsi (extui 32 p natLt_8_32) (broadcastInDim S2048x14336 ![] bcast_S_S2048x14336 (constantI S_ 32 4#32))

/-- The products of `dy` with the two halves of the weights, side by side. -/
abbrev halves (dy : FVec Ideal S8x2048x14336 .bf16) (wl wh : FVec Ideal S2048x14336 .bf16) : FVec Ideal S8x2048x2048x2 .f32 :=
  concatenate S8x2048x2048x2 3 [⟨S8x2048x2048x1, (broadcastInDim S8x2048x2048x1 ![0, 1, 2] bcast_S8x2048x2048_S8x2048x2048x1_0_1_2 (Host.dotGeneral dot_S8x2048x14336_S2048x14336_S8x2048x2048_2_1_01_0_n_n none dy wl))⟩, ⟨S8x2048x2048x1, (broadcastInDim S8x2048x2048x1 ![0, 1, 2] bcast_S8x2048x2048_S8x2048x2048x1_0_1_2 (Host.dotGeneral dot_S8x2048x14336_S2048x14336_S8x2048x2048_2_1_01_0_n_n none dy wh))⟩] concatenates_S8x2048x2048x1_S8x2048x2048x1_S8x2048x2048x2_d3

/-- The reference's weight at a row and a column. -/
theorem rows_apply (v : Vec Ideal S2048x14336 .i32) (s : FVec Ideal S64x14336 .f32) (r : Fin 2048) (l : Fin 14336) :
    rows v s (ix2 r l) = Cert.KernelIdeal.Target.nf4 (v (ix2 r l)) * s (ix2 ⟨r.val / 32, by omega⟩ l) := by
  pointwise [rows, vals, Cert.KernelIdeal.Target.nf4]

theorem lows_apply (p : Vec Ideal S2048x14336 .i8) (r : Fin 2048) (l : Fin 14336) :
    lows p (ix2 r l) = Cert.KernelIdeal.Target.lo (p (ix2 r l)) := by
  pointwise [lows, Cert.KernelIdeal.Target.lo]

theorem highs_apply (p : Vec Ideal S2048x14336 .i8) (r : Fin 2048) (l : Fin 14336) :
    highs p (ix2 r l) = Cert.KernelIdeal.Target.hi (p (ix2 r l)) := by
  rw [← Cert.KernelIdeal.Target.hi_host]
  pointwise [highs]

/-- The named term of the run is these products, with the low and the high codes' weights. -/
theorem res_halves (V : Valuation τ sig (Elt Ideal)) : res_main_v115 V
    = halves (V (Proc.devRef .tc main_arg5)) (rows (lows (V (Proc.devRef .tc main_arg1))) (V (Proc.devRef .tc main_arg2)))
        (rows (highs (V (Proc.devRef .tc main_arg1))) (V (Proc.devRef .tc main_arg2))) := rfl

/-- Column `d` of the two products, side by side and then joined: an even column is the low half's, an odd one the high half's. -/
theorem halves_apply (dy : FVec Ideal S8x2048x14336 .bf16) (wl wh : FVec Ideal S2048x14336 .bf16) (a : Fin 8) (b : Fin 2048) (d : Fin 4096) :
    shapeCast S8x2048x4096 (halves dy wl wh) shapeCasts_S8x2048x2048x2_S8x2048x4096 (ix3 a b d)
      = if d.val % 2 = 0 then ∑ k : Fin 14336, dy (ix3 a b k) * wl (ix2 ⟨d.val / 2, by omega⟩ k)
        else ∑ k : Fin 14336, dy (ix3 a b k) * wh (ix2 ⟨d.val / 2, by omega⟩ k) := by
  pointwise []
  by_cases h : d.val % 2 = 0
  · rw [dif_pos (by omega), if_pos h]
  · rw [dif_neg (by omega), if_neg h]

/-- The two products with the reference's weights are the product with the kernel's weights. -/
theorem halves_W (dy : FVec Ideal S8x2048x14336 .bf16) (p : Vec Ideal S2048x14336 .i8) (s : FVec Ideal S64x14336 .f32) (a : Fin 8) (b : Fin 2048) (d : Fin 4096) :
    shapeCast S8x2048x4096 (halves dy (rows (lows p) s) (rows (highs p) s)) shapeCasts_S8x2048x2048x2_S8x2048x4096 (ix3 a b d)
      = ∑ k : Fin 14336, dy (ix3 a b k) * Cert.KernelIdeal.Target.W p s (ix2 d k) := by
  have e : d.val / 2 / 32 = d.val / 64 := by omega
  rw [halves_apply]
  by_cases h : d.val % 2 = 0
  · rw [if_pos h]
    refine Finset.sum_congr rfl fun k _ => congrArg (dy (ix3 a b k) * ·) ?_
    rw [rows_apply, lows_apply]
    simp only [e]
    exact congrArg (· * _) (if_pos h).symm
  · rw [if_neg h]
    refine Finset.sum_congr rfl fun k _ => congrArg (dy (ix3 a b k) * ·) ?_
    rw [rows_apply, highs_apply]
    simp only [e]
    exact congrArg (· * _) (if_neg h).symm

/-- The gradient of `x`, from what its first summand is. -/
theorem refDX_eq (q : FVec Ideal S8x2048x4096 .f32) (dy : FVec Ideal S8x2048x14336 .bf16) (w : FVec Ideal Cert.KernelIdeal.S4096x14336 .bf16)
    (hq : ∀ a b d, q (ix3 a b d) = ∑ k : Fin 14336, dy (ix3 a b k) * w (ix2 d k))
    (g : FVec Ideal Cert.KernelIdeal.S16384x16 .bf16) (la : FVec Ideal S4096x16 .bf16) :
    refDX q (shapeCast S8x2048x16 g Cert.KernelIdeal.Gen.shapeCasts_S16384x16_S8x2048x16) la
      = shapeCast S8x2048x4096 (Cert.KernelIdeal.Target.DX (flatDy dy) w g la) Cert.KernelIdeal.Gen.shapeCasts_S16384x4096_S8x2048x4096 := by
  funext j
  idx_vars j
  pointwise [Cert.KernelIdeal.Target.DX, hq]

end Cert.ReferenceIdeal.Value
-- ==== Proof.Algebraic.lean ====
/-
  The kernel and the reference, from equal arguments, end with equal results.
-/
module

public import proofs.«01_k».proof.Defs
public import proofs.«01_k».proof.Proof.KernelIdeal.Final
public import proofs.«01_k».proof.Proof.Reference.Products

@[expose] public section

set_option maxRecDepth 16384

noncomputable section

namespace Cert.Algebraic

open Idealize.ShloMosaic Idealize.ShloMosaic.TcCoe Idealize.SL.Sem Idealize.ShloMosaic.StableHlo
open Cert.ReferenceIdeal.Value

variable (m : (ℓ : Loc Cert.KernelIdeal.nD Cert.KernelIdeal.τ Cert.KernelIdeal.sig) → Buf (Elt Ideal) ℓ)

/-- The kernel's run: each result at its value, the arguments as they were. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5) = Cert.KernelIdeal.Run.U5 m c (Proc.devRef .tc Cert.KernelIdeal.main_v5)
      ∧ r.2.mem ((c.tc : Thread Cert.KernelIdeal.nD Cert.KernelIdeal.τ).loc Cert.KernelIdeal.main_v6) = Cert.KernelIdeal.Run.U5 m c (Proc.devRef .tc Cert.KernelIdeal.main_v6)
      ∧ r.2.mem ((c.tc : Thread Cert.KernelIdeal.nD Cert.KernelIdeal.τ).loc Cert.KernelIdeal.main_v4_3) = Cert.KernelIdeal.Run.U5 m c (Proc.devRef .tc Cert.KernelIdeal.main_v4_3)
      ∧ r.2.mem ((c.tc : Thread Cert.KernelIdeal.nD Cert.KernelIdeal.τ).loc Cert.KernelIdeal.main_v7) = Cert.KernelIdeal.Run.U5 m c (Proc.devRef .tc Cert.KernelIdeal.main_v7)
      ∧ r.2.mem ((c.tc : Thread Cert.KernelIdeal.nD Cert.KernelIdeal.τ).loc Cert.KernelIdeal.main_v8) = Cert.KernelIdeal.Run.U5 m c (Proc.devRef .tc Cert.KernelIdeal.main_v8)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run _ _ _).mono (fun _ h c => ⟨h.1 c _ rfl, h.1 c _ rfl, h.1 c _ rfl, h.1 c _ rfl, h.1 c _ rfl,
    (h.1 c _ rfl).trans (Cert.KernelIdeal.Run.U5_untouched m c _ Cert.KernelIdeal.Run.untouched_arg0),
    (h.1 c _ rfl).trans (Cert.KernelIdeal.Run.U5_untouched m c _ Cert.KernelIdeal.Run.untouched_arg1),
    (h.1 c _ rfl).trans (Cert.KernelIdeal.Run.U5_untouched m c _ Cert.KernelIdeal.Run.untouched_arg2),
    (h.1 c _ rfl).trans (Cert.KernelIdeal.Run.U5_untouched m c _ Cert.KernelIdeal.Run.untouched_arg3),
    (h.1 c _ rfl).trans (Cert.KernelIdeal.Run.U5_untouched m c _ Cert.KernelIdeal.Run.untouched_arg4),
    (h.1 c _ rfl).trans (Cert.KernelIdeal.Run.U5_untouched m c _ Cert.KernelIdeal.Run.untouched_arg5)⟩) (Cert.KernelIdeal.Run.run m g)

variable (V : Valuation Cert.ReferenceIdeal.τ Cert.ReferenceIdeal.sig (Elt Ideal)) (c : Dev Cert.KernelIdeal.nD)

/-- The reference's arguments in `V` are the kernel's in `m`. -/
structure Agree : Prop where
  x : V (Proc.devRef .tc Cert.ReferenceIdeal.main_arg0) = Cert.KernelIdeal.Run.argX m c
  p : V (Proc.devRef .tc Cert.ReferenceIdeal.main_arg1) = Cert.KernelIdeal.Run.argP m c
  s : V (Proc.devRef .tc Cert.ReferenceIdeal.main_arg2) = Cert.KernelIdeal.Run.argS m c
  a : V (Proc.devRef .tc Cert.ReferenceIdeal.main_arg3) = Cert.KernelIdeal.Run.argA m c
  b : V (Proc.devRef .tc Cert.ReferenceIdeal.main_arg4) = Cert.KernelIdeal.Run.argB m c
  dy : V (Proc.devRef .tc Cert.ReferenceIdeal.main_arg5) = Cert.KernelIdeal.Run.argDy m c

variable {m V c} (h : Agree m V c)
include h

/-- The low-rank product `g`. -/
theorem g_eq : res_main_v118 V = Cert.KernelIdeal.Run.U5 m c (Proc.devRef .tc Cert.KernelIdeal.main_v7) := by
  rw [Cert.KernelIdeal.Run.U5_v7]
  unfold res_main_v118
  rw [h.dy, h.b]
  exact refG_eq _ _

/-- The low-rank product `h`. -/
theorem h_eq : refH (V (Proc.devRef .tc Cert.ReferenceIdeal.main_arg0)) (V (Proc.devRef .tc Cert.ReferenceIdeal.main_arg3))
    = Cert.KernelIdeal.Run.U5 m c (Proc.devRef .tc Cert.KernelIdeal.main_v8) := by
  rw [Cert.KernelIdeal.Run.U5_v8, h.x, h.a]
  exact refH_eq _ _

/-- The gradient of `B`. -/
theorem dlb_eq : refDLB (refH (V (Proc.devRef .tc Cert.ReferenceIdeal.main_arg0)) (V (Proc.devRef .tc Cert.ReferenceIdeal.main_arg3))) (V (Proc.devRef .tc Cert.ReferenceIdeal.main_arg5))
    = Cert.KernelIdeal.Run.U5 m c (Proc.devRef .tc Cert.KernelIdeal.main_v4_3) := by
  rw [h_eq h, Cert.KernelIdeal.Run.U5_v8, Cert.KernelIdeal.Run.U5_v4_3, h.dy]
  exact refDLB_eq _ _

/-- The gradient of `A`. -/
theorem dla_eq : refDLA (V (Proc.devRef .tc Cert.ReferenceIdeal.main_arg0)) (res_main_v118 V)
    = Cert.KernelIdeal.Run.U5 m c (Proc.devRef .tc Cert.KernelIdeal.main_v6) := by
  rw [g_eq h, Cert.KernelIdeal.Run.U5_v7, Cert.KernelIdeal.Run.U5_v6, h.x]
  exact refDLA_eq _ _

/-- The gradient of `x`. -/
theorem dx_eq : refDX (shapeCast _ (res_main_v115 V) Cert.ReferenceIdeal.Gen.shapeCasts_S8x2048x2048x2_S8x2048x4096) (res_main_v118 V) (V (Proc.devRef .tc Cert.ReferenceIdeal.main_arg3))
    = Cert.KernelIdeal.Run.U5 m c (Proc.devRef .tc Cert.KernelIdeal.main_v5) := by
  rw [g_eq h, Cert.KernelIdeal.Run.U5_v7, Cert.KernelIdeal.Run.U5_v5, res_halves, h.dy, h.p, h.s, h.a]
  exact refDX_eq _ _ _ (halves_W _ _ _) _ _

omit h in
/-- The claim: the five results of the two programs are equal. -/
theorem claim : Cert.algebraic_KernelIdeal_ReferenceIdeal := by
  intro m g m' g' _ hagree
  have h : ∀ c, Agree m (launchContents m' c) c := fun c =>
    ⟨(hagree c).1, (hagree c).2.1, (hagree c).2.2.1, (hagree c).2.2.2.1, (hagree c).2.2.2.2.1, (hagree c).2.2.2.2.2⟩
  refine ⟨_, _, _, _, _, kernel_run m g, ?_⟩
  refine (θ_run _ _ _).mono (fun r hr c => ?_) (Cert.ReferenceIdeal.Value.run m' g')
  obtain ⟨h0, h1, h2, h3, h4, hargs⟩ := hr c
  exact ⟨h0.trans (dx_eq (h c)), h1.trans (dla_eq (h c)), h2.trans (dlb_eq (h c)), h3.trans (g_eq (h c)), h4.trans (h_eq (h c)), hargs⟩

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Reference.Frame
public import proofs.«01_k».proof.Proof.Kernel.Keep
public import proofs.«01_k».proof.Proof.KernelIdeal.Keep
public import proofs.«01_k».proof.Proof.Algebraic
public import Idealize.ShloMosaic.Adequacy
public import Idealize.ShloMosaic.Init
public import Idealize.ShloMosaic.Lib.Bf16Pair
public import Idealize.ShloMosaic.Lib.Claim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Run.frame m g,
  fun m g _ => Cert.KernelIdeal.Run.frame m g,
  fun m g _ => Cert.ReferenceIdeal.Value.frame m g,
  ⟨IdealRules.bf16_pair.statement Cert.KernelIdeal.S512x1024 Cert.KernelIdeal.S256x1024, IdealRules.bf16_pack.statement Cert.KernelIdeal.S256x1024⟩,
  Cert.Algebraic.claim⟩

end Cert.Proof

end
